-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x750x128 : Shape := ⟨3, ![32, 750, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S_ : Shape := ⟨0, ![]⟩

class Facts : Prop where
  bcast_S_S32x750x128 : S_.BroadcastsInDim S32x750x128 (![] : Fin 0 → Fin S32x750x128.rank)
  reducesTo_S32x750x128_S_d0_1_2 : S32x750x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32x750x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128x512 .f32) (main_arg10 : FVec F S512 .f32) (main_arg11 : FVec F S512x128 .f32) (main_arg12 : FVec F S128 .f32) (main_arg13 : FVec F S128 .f32) (main_arg14 : FVec F S128 .f32) : IVec S_ 1 :=
  let main_v0 : FVec F S32x750x128 .f32 := Host.absf main_arg0
  let main_cst : FVec F S_ .f32 := constant S_ .f32 0x7F800000#32
  let main_v1 : FVec F S32x750x128 .f32 := broadcastInDim S32x750x128 ![] bcast_S_S32x750x128 main_cst
  let main_v2 : IVec S32x750x128 1 := cmpf .olt main_v0 main_v1
  let main_c : IVec S_ 1 := constantI S_ 1 1#1
  let main_v3 : IVec S_ 1 := (fun x v => Host.reduce IntOp.andi x v reducesTo_S32x750x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S32x750x128 : Shape := ⟨3, ![32, 750, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S8x128 : Shape := ⟨2, ![8, 128]⟩
abbrev S256x128 : Shape := ⟨2, ![256, 128]⟩
abbrev S1x128 : Shape := ⟨2, ![1, 128]⟩
abbrev S750x32x128 : Shape := ⟨3, ![750, 32, 128]⟩
abbrev S24000x128 : Shape := ⟨2, ![24000, 128]⟩
abbrev S128x384 : Shape := ⟨2, ![128, 384]⟩
abbrev S384 : Shape := ⟨1, ![384]⟩
abbrev S1x384 : Shape := ⟨2, ![1, 384]⟩
abbrev S_ : Shape := ⟨0, ![]⟩
abbrev S7 : Shape := ⟨1, ![7]⟩
abbrev S1 : Shape := ⟨1, ![1]⟩
abbrev S8 : Shape := ⟨1, ![8]⟩
abbrev S8x2 : Shape := ⟨2, ![8, 2]⟩
abbrev S16 : Shape := ⟨1, ![16]⟩
abbrev S1x16 : Shape := ⟨2, ![1, 16]⟩
abbrev S8x16 : Shape := ⟨2, ![8, 16]⟩
abbrev S32 : Shape := ⟨1, ![32]⟩
abbrev S32x1 : Shape := ⟨2, ![32, 1]⟩
abbrev S32x128 : Shape := ⟨2, ![32, 128]⟩
abbrev S1x32 : Shape := ⟨2, ![1, 32]⟩
abbrev S32x32 : Shape := ⟨2, ![32, 32]⟩
abbrev S8x1x1 : Shape := ⟨3, ![8, 1, 1]⟩
abbrev S1x32x32 : Shape := ⟨3, ![1, 32, 32]⟩
abbrev S8x32x32 : Shape := ⟨3, ![8, 32, 32]⟩
abbrev S32x8x32 : Shape := ⟨3, ![32, 8, 32]⟩
abbrev S32x256 : Shape := ⟨2, ![32, 256]⟩
abbrev S1x512 : Shape := ⟨2, ![1, 512]⟩
abbrev S4800x128 : Shape := ⟨2, ![4800, 128]⟩
abbrev S4800x384 : Shape := ⟨2, ![4800, 384]⟩
abbrev S4800x128x1 : Shape := ⟨3, ![4800, 128, 1]⟩
abbrev S150x32x128 : Shape := ⟨3, ![150, 32, 128]⟩
abbrev S1x32x128 : Shape := ⟨3, ![1, 32, 128]⟩
abbrev S150x1x32x128 : Shape := ⟨4, ![150, 1, 32, 128]⟩
abbrev S1x8x1x128 : Shape := ⟨4, ![1, 8, 1, 128]⟩
abbrev S150x8x32x128 : Shape := ⟨4, ![150, 8, 32, 128]⟩
abbrev S38400x128 : Shape := ⟨2, ![38400, 128]⟩
abbrev S4800x256 : Shape := ⟨2, ![4800, 256]⟩
abbrev S4800 : Shape := ⟨1, ![4800]⟩
abbrev S4800x1 : Shape := ⟨2, ![4800, 1]⟩
abbrev S4800x512 : Shape := ⟨2, ![4800, 512]⟩

abbrev nBuf : Space → Nat
  | .hbm => 120
  | .vmem => 20
  | .smem => 0
  | _ => 0

abbrev bufTy : (tb : Table) → Fin (tcTables nBuf tb) → BufTy
  | .hbm, ⟨0, _⟩ => ⟨S32x750x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x512, .f32⟩
  | .hbm, ⟨10, _⟩ => ⟨S512, .f32⟩
  | .hbm, ⟨11, _⟩ => ⟨S512x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S8x128, .bf16⟩
  | .hbm, ⟨17, _⟩ => ⟨S256x128, .bf16⟩
  | .hbm, ⟨18, _⟩ => ⟨S1x128, .i32⟩
  | .hbm, ⟨19, _⟩ => ⟨S750x32x128, .f32⟩
  | .hbm, ⟨20, _⟩ => ⟨S24000x128, .f32⟩
  | .hbm, ⟨21, _⟩ => ⟨S128x384, .f32⟩
  | .hbm, ⟨22, _⟩ => ⟨S128x384, .bf16⟩
  | .hbm, ⟨23, _⟩ => ⟨S384, .f32⟩
  | .hbm, ⟨24, _⟩ => ⟨S1x384, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S7, .f32⟩
  | .hbm, ⟨33, _⟩ => ⟨S_, .f32⟩
  | .hbm, ⟨34, _⟩ => ⟨S7, .f32⟩
  | .hbm, ⟨35, _⟩ => ⟨S7, .f32⟩
  | .hbm, ⟨36, _⟩ => ⟨S1, .f32⟩
  | .hbm, ⟨37, _⟩ => ⟨S_, .f32⟩
  | .hbm, ⟨38, _⟩ => ⟨S7, .f32⟩
  | .hbm, ⟨39, _⟩ => ⟨S7, .f32⟩
  | .hbm, ⟨40, _⟩ => ⟨S7, .f32⟩
  | .hbm, ⟨41, _⟩ => ⟨S7, .f32⟩
  | .hbm, ⟨42, _⟩ => ⟨S1, .f32⟩
  | .hbm, ⟨43, _⟩ => ⟨S7, .f32⟩
  | .hbm, ⟨44, _⟩ => ⟨S7, .f32⟩
  | .hbm, ⟨45, _⟩ => ⟨S7, .f32⟩
  | .hbm, ⟨46, _⟩ => ⟨S1, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S8x2, .f32⟩
  | .hbm, ⟨55, _⟩ => ⟨S16, .f32⟩
  | .hbm, ⟨56, _⟩ => ⟨S1x16, .f32⟩
  | .hbm, ⟨57, _⟩ => ⟨S8x16, .f32⟩
  | .hbm, ⟨58, _⟩ => ⟨S128, .f32⟩
  | .hbm, ⟨59, _⟩ => ⟨S32, .f32⟩
  | .hbm, ⟨60, _⟩ => ⟨S32x1, .f32⟩
  | .hbm, ⟨61, _⟩ => ⟨S1x128, .f32⟩
  | .hbm, ⟨62, _⟩ => ⟨S32x128, .f32⟩
  | .hbm, ⟨63, _⟩ => ⟨S32x128, .f32⟩
  | .hbm, ⟨64, _⟩ => ⟨S32x128, .f32⟩
  | .hbm, ⟨65, _⟩ => ⟨S32x128, .f32⟩
  | .hbm, ⟨66, _⟩ => ⟨S32x1, .f32⟩
  | .hbm, ⟨67, _⟩ => ⟨S1x128, .f32⟩
  | .hbm, ⟨68, _⟩ => ⟨S32x128, .f32⟩
  | .hbm, ⟨69, _⟩ => ⟨S32x128, .f32⟩
  | .hbm, ⟨70, _⟩ => ⟨S32x128, .f32⟩
  | .hbm, ⟨71, _⟩ => ⟨S32x128, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S_, .f32⟩
  | .hbm, ⟨83, _⟩ => ⟨S8, .f32⟩
  | .hbm, ⟨84, _⟩ => ⟨S8, .f32⟩
  | .hbm, ⟨85, _⟩ => ⟨S_, .f32⟩
  | .hbm, ⟨86, _⟩ => ⟨S8, .f32⟩
  | .hbm, ⟨87, _⟩ => ⟨S8, .f32⟩
  | .hbm, ⟨88, _⟩ => ⟨S8, .f32⟩
  | .hbm, ⟨89, _⟩ => ⟨S32x1, .f32⟩
  | .hbm, ⟨90, _⟩ => ⟨S1x32, .f32⟩
  | .hbm, ⟨91, _⟩ => ⟨S32x32, .f32⟩
  | .hbm, ⟨92, _⟩ => ⟨S32x32, .f32⟩
  | .hbm, ⟨93, _⟩ => ⟨S32x32, .f32⟩
  | .hbm, ⟨94, _⟩ => ⟨S32x32, .f32⟩
  | .hbm, ⟨95, _⟩ => ⟨S8x1x1, .f32⟩
  | .hbm, ⟨96, _⟩ => ⟨S1x32x32, .f32⟩
  | .hbm, ⟨97, _⟩ => ⟨S8x32x32, .f32⟩
  | .hbm, ⟨98, _⟩ => ⟨S8x32x32, .f32⟩
  | .hbm, ⟨99, _⟩ => ⟨S8x32x32, .f32⟩
  | .hbm, ⟨100, _⟩ => ⟨S32x8x32, .f32⟩
  | .hbm, ⟨101, _⟩ => ⟨S32x8x32, .f32⟩
  | .hbm, ⟨102, _⟩ => ⟨S32x256, .f32⟩
  | .hbm, ⟨103, _⟩ => ⟨S1x128, .f32⟩
  | .hbm, ⟨104, _⟩ => ⟨S32x128, .f32⟩
  | .hbm, ⟨105, _⟩ => ⟨S32x128, .f32⟩
  | .hbm, ⟨106, _⟩ => ⟨S1x128, .f32⟩
  | .hbm, ⟨107, _⟩ => ⟨S1x128, .f32⟩
  | .hbm, ⟨108, _⟩ => ⟨S128x512, .bf16⟩
  | .hbm, ⟨109, _⟩ => ⟨S1x512, .f32⟩
  | .hbm, ⟨110, _⟩ => ⟨S512x128, .bf16⟩
  | .hbm, ⟨111, _⟩ => ⟨S1x128, .f32⟩
  | .hbm, ⟨112, _⟩ => ⟨S1x128, .f32⟩
  | .hbm, ⟨113, _⟩ => ⟨S1x128, .f32⟩
  | .hbm, ⟨114, _⟩ => ⟨S32x128, .bf16⟩
  | .hbm, ⟨115, _⟩ => ⟨S32x128, .bf16⟩
  | .hbm, ⟨116, _⟩ => ⟨S32x256, .bf16⟩
  | .hbm, ⟨117, _⟩ => ⟨S24000x128, .f32⟩
  | .hbm, ⟨118, _⟩ => ⟨S750x32x128, .f32⟩
  | .hbm, ⟨119, _⟩ => ⟨S32x750x128, .f32⟩
  | .local _ .vmem, ⟨0, _⟩ => ⟨S4800x128, .f32⟩
  | .local _ .vmem, ⟨1, _⟩ => ⟨S4800x128, .f32⟩
  | .local _ .vmem, ⟨2, _⟩ => ⟨S128x384, .bf16⟩
  | .local _ .vmem, ⟨3, _⟩ => ⟨S1x384, .f32⟩
  | .local _ .vmem, ⟨4, _⟩ => ⟨S1x128, .f32⟩
  | .local _ .vmem, ⟨5, _⟩ => ⟨S1x128, .f32⟩
  | .local _ .vmem, ⟨6, _⟩ => ⟨S128x512, .bf16⟩
  | .local _ .vmem, ⟨7, _⟩ => ⟨S1x512, .f32⟩
  | .local _ .vmem, ⟨8, _⟩ => ⟨S512x128, .bf16⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S32x128, .bf16⟩
  | .local _ .vmem, ⟨13, _⟩ => ⟨S32x128, .bf16⟩
  | .local _ .vmem, ⟨14, _⟩ => ⟨S32x256, .bf16⟩
  | .local _ .vmem, ⟨15, _⟩ => ⟨S8x128, .bf16⟩
  | .local _ .vmem, ⟨16, _⟩ => ⟨S256x128, .bf16⟩
  | .local _ .vmem, ⟨17, _⟩ => ⟨S1x128, .i32⟩
  | .local _ .vmem, ⟨18, _⟩ => ⟨S4800x128, .f32⟩
  | .local _ .vmem, ⟨19, _⟩ => ⟨S4800x128, .f32⟩
  | _, _ => ⟨S32x750x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_cst : Ref sig .tc := ⟨.hbm, 15, rfl⟩
abbrev main_call0_cst_0 : Ref sig .tc := ⟨.hbm, 16, rfl⟩
abbrev main_call0_cst_1 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_cst_2 : Ref sig .tc := ⟨.hbm, 25, rfl⟩
abbrev main_call0_cst_3 : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_cst : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_cst_0 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_cst_1 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_call0_v12 : Ref sig .tc := ⟨.hbm, 42, rfl⟩
abbrev main_call0_call0_v13 : Ref sig .tc := ⟨.hbm, 43, rfl⟩
abbrev main_call0_call0_v14 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_v6 : Ref sig .tc := ⟨.hbm, 47, rfl⟩
abbrev main_call0_cst_4 : Ref sig .tc := ⟨.hbm, 48, rfl⟩
abbrev main_call0_v7 : Ref sig .tc := ⟨.hbm, 49, rfl⟩
abbrev main_call0_v8 : Ref sig .tc := ⟨.hbm, 50, rfl⟩
abbrev main_call0_cst_5 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_call0_v15 : Ref sig .tc := ⟨.hbm, 58, rfl⟩
abbrev main_call0_v16 : Ref sig .tc := ⟨.hbm, 59, rfl⟩
abbrev main_call0_v17 : Ref sig .tc := ⟨.hbm, 60, rfl⟩
abbrev main_call0_v18 : Ref sig .tc := ⟨.hbm, 61, rfl⟩
abbrev main_call0_v19 : Ref sig .tc := ⟨.hbm, 62, rfl⟩
abbrev main_call0_v20 : Ref sig .tc := ⟨.hbm, 63, rfl⟩
abbrev main_call0_v21 : Ref sig .tc := ⟨.hbm, 64, rfl⟩
abbrev main_call0_v22 : Ref sig .tc := ⟨.hbm, 65, rfl⟩
abbrev main_call0_v23 : Ref sig .tc := ⟨.hbm, 66, rfl⟩
abbrev main_call0_v24 : Ref sig .tc := ⟨.hbm, 67, rfl⟩
abbrev main_call0_v25 : Ref sig .tc := ⟨.hbm, 68, rfl⟩
abbrev main_call0_v26 : Ref sig .tc := ⟨.hbm, 69, rfl⟩
abbrev main_call0_v27 : Ref sig .tc := ⟨.hbm, 70, rfl⟩
abbrev main_call0_v28 : Ref sig .tc := ⟨.hbm, 71, rfl⟩
abbrev main_call0_v29 : Ref sig .tc := ⟨.hbm, 72, rfl⟩
abbrev main_call0_cst_6 : Ref sig .tc := ⟨.hbm, 73, rfl⟩
abbrev main_call0_v30 : Ref sig .tc := ⟨.hbm, 74, rfl⟩
abbrev main_call0_v31 : Ref sig .tc := ⟨.hbm, 75, rfl⟩
abbrev main_call0_cst_7 : Ref sig .tc := ⟨.hbm, 76, rfl⟩
abbrev main_call0_v32 : Ref sig .tc := ⟨.hbm, 77, rfl⟩
abbrev main_call0_v33 : Ref sig .tc := ⟨.hbm, 78, rfl⟩
abbrev main_call0_cst_8 : Ref sig .tc := ⟨.hbm, 79, rfl⟩
abbrev main_call0_v34 : Ref sig .tc := ⟨.hbm, 80, rfl⟩
abbrev main_call0_v35 : Ref sig .tc := ⟨.hbm, 81, rfl⟩
abbrev main_call0_cst_9 : Ref sig .tc := ⟨.hbm, 82, rfl⟩
abbrev main_call0_v36 : Ref sig .tc := ⟨.hbm, 83, rfl⟩
abbrev main_call0_v37 : Ref sig .tc := ⟨.hbm, 84, rfl⟩
abbrev main_call0_cst_10 : Ref sig .tc := ⟨.hbm, 85, rfl⟩
abbrev main_call0_v38 : Ref sig .tc := ⟨.hbm, 86, rfl⟩
abbrev main_call0_v39 : Ref sig .tc := ⟨.hbm, 87, rfl⟩
abbrev main_call0_v40 : Ref sig .tc := ⟨.hbm, 88, rfl⟩
abbrev main_call0_v41 : Ref sig .tc := ⟨.hbm, 89, rfl⟩
abbrev main_call0_v42 : Ref sig .tc := ⟨.hbm, 90, rfl⟩
abbrev main_call0_v43 : Ref sig .tc := ⟨.hbm, 91, rfl⟩
abbrev main_call0_v44 : Ref sig .tc := ⟨.hbm, 92, rfl⟩
abbrev main_call0_v45 : Ref sig .tc := ⟨.hbm, 93, rfl⟩
abbrev main_call0_v46 : Ref sig .tc := ⟨.hbm, 94, rfl⟩
abbrev main_call0_v47 : Ref sig .tc := ⟨.hbm, 95, rfl⟩
abbrev main_call0_v48 : Ref sig .tc := ⟨.hbm, 96, rfl⟩
abbrev main_call0_v49 : Ref sig .tc := ⟨.hbm, 97, rfl⟩
abbrev main_call0_v50 : Ref sig .tc := ⟨.hbm, 98, rfl⟩
abbrev main_call0_v51 : Ref sig .tc := ⟨.hbm, 99, rfl⟩
abbrev main_call0_v52 : Ref sig .tc := ⟨.hbm, 100, rfl⟩
abbrev main_call0_v53 : Ref sig .tc := ⟨.hbm, 101, rfl⟩
abbrev main_call0_v54 : Ref sig .tc := ⟨.hbm, 102, rfl⟩
abbrev main_call0_v55 : Ref sig .tc := ⟨.hbm, 103, rfl⟩
abbrev main_call0_v56 : Ref sig .tc := ⟨.hbm, 104, rfl⟩
abbrev main_call0_v57 : Ref sig .tc := ⟨.hbm, 105, rfl⟩
abbrev main_call0_v58 : Ref sig .tc := ⟨.hbm, 106, rfl⟩
abbrev main_call0_v59 : Ref sig .tc := ⟨.hbm, 107, rfl⟩
abbrev main_call0_v60 : Ref sig .tc := ⟨.hbm, 108, rfl⟩
abbrev main_call0_v61 : Ref sig .tc := ⟨.hbm, 109, rfl⟩
abbrev main_call0_v62 : Ref sig .tc := ⟨.hbm, 110, rfl⟩
abbrev main_call0_v63 : Ref sig .tc := ⟨.hbm, 111, rfl⟩
abbrev main_call0_v64 : Ref sig .tc := ⟨.hbm, 112, rfl⟩
abbrev main_call0_v65 : Ref sig .tc := ⟨.hbm, 113, rfl⟩
abbrev main_call0_v66 : Ref sig .tc := ⟨.hbm, 114, rfl⟩
abbrev main_call0_v67 : Ref sig .tc := ⟨.hbm, 115, rfl⟩
abbrev main_call0_v68 : Ref sig .tc := ⟨.hbm, 116, rfl⟩
abbrev main_call0_v69 : Ref sig .tc := ⟨.hbm, 117, rfl⟩
abbrev main_call0_v70 : Ref sig .tc := ⟨.hbm, 118, rfl⟩
abbrev main_v0 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .i32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S4800x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S32x750x128 : Shape := ⟨3, ![32, 750, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S750x32x128 : Shape := ⟨3, ![750, 32, 128]⟩
abbrev S_ : Shape := ⟨0, ![]⟩
abbrev S7 : Shape := ⟨1, ![7]⟩
abbrev S1 : Shape := ⟨1, ![1]⟩
abbrev S8 : Shape := ⟨1, ![8]⟩
abbrev S8x2 : Shape := ⟨2, ![8, 2]⟩
abbrev S16 : Shape := ⟨1, ![16]⟩
abbrev S32 : Shape := ⟨1, ![32]⟩
abbrev S32x1 : Shape := ⟨2, ![32, 1]⟩
abbrev S1x16 : Shape := ⟨2, ![1, 16]⟩
abbrev S32x16 : Shape := ⟨2, ![32, 16]⟩
abbrev S1x32 : Shape := ⟨2, ![1, 32]⟩
abbrev S32x32 : Shape := ⟨2, ![32, 32]⟩
abbrev S8x1x1 : Shape := ⟨3, ![8, 1, 1]⟩
abbrev S1x32x32 : Shape := ⟨3, ![1, 32, 32]⟩
abbrev S8x32x32 : Shape := ⟨3, ![8, 32, 32]⟩
abbrev S1x1x128 : Shape := ⟨3, ![1, 1, 128]⟩
abbrev S750x32x8x16 : Shape := ⟨4, ![750, 32, 8, 16]⟩
abbrev S8x750x32x16 : Shape := ⟨4, ![8, 750, 32, 16]⟩
abbrev S1x1x32x16 : Shape := ⟨4, ![1, 1, 32, 16]⟩
abbrev S8x750x32x8 : Shape := ⟨4, ![8, 750, 32, 8]⟩
abbrev S8x750x32x32 : Shape := ⟨4, ![8, 750, 32, 32]⟩
abbrev S8x1x32x32 : Shape := ⟨4, ![8, 1, 32, 32]⟩
abbrev S8x750x32 : Shape := ⟨3, ![8, 750, 32]⟩
abbrev S8x750x32x1 : Shape := ⟨4, ![8, 750, 32, 1]⟩
abbrev S750x32 : Shape := ⟨2, ![750, 32]⟩
abbrev S750x32x1 : Shape := ⟨3, ![750, 32, 1]⟩
abbrev S750x32x512 : Shape := ⟨3, ![750, 32, 512]⟩
abbrev S1x1x512 : Shape := ⟨3, ![1, 1, 512]⟩

abbrev nBuf : Space → Nat
  | .hbm => 221
  | .vmem => 0
  | .smem => 0
  | _ => 0

abbrev hbmTy0_0 (i : Nat) : BufTy := match i % 128 with
  | 0 => ⟨S32x750x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128x512, .f32⟩
  | 10 => ⟨S512, .f32⟩
  | 11 => ⟨S512x128, .f32⟩
  | 12 => ⟨S128, .f32⟩
  | 13 => ⟨S128, .f32⟩
  | 14 => ⟨S128, .f32⟩
  | 15 => ⟨S750x32x128, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S7, .f32⟩
  | 24 => ⟨S_, .f32⟩
  | 25 => ⟨S7, .f32⟩
  | 26 => ⟨S7, .f32⟩
  | 27 => ⟨S1, .f32⟩
  | 28 => ⟨S_, .f32⟩
  | 29 => ⟨S7, .f32⟩
  | 30 => ⟨S7, .f32⟩
  | 31 => ⟨S7, .f32⟩
  | 32 => ⟨S7, .f32⟩
  | 33 => ⟨S1, .f32⟩
  | 34 => ⟨S7, .f32⟩
  | 35 => ⟨S7, .f32⟩
  | 36 => ⟨S7, .f32⟩
  | 37 => ⟨S1, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S8x2, .f32⟩
  | 46 => ⟨S16, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S_, .f32⟩
  | 61 => ⟨S8, .f32⟩
  | 62 => ⟨S8, .f32⟩
  | 63 => ⟨S8, .f32⟩
  | 64 => ⟨S32, .f32⟩
  | 65 => ⟨S32x1, .f32⟩
  | 66 => ⟨S1x16, .f32⟩
  | 67 => ⟨S32x16, .f32⟩
  | 68 => ⟨S32x16, .f32⟩
  | 69 => ⟨S32x16, .f32⟩
  | 70 => ⟨S32x16, .f32⟩
  | 71 => ⟨S32x1, .f32⟩
  | 72 => ⟨S1x16, .f32⟩
  | 73 => ⟨S32x16, .f32⟩
  | 74 => ⟨S32x16, .f32⟩
  | 75 => ⟨S32x16, .f32⟩
  | 76 => ⟨S32x16, .f32⟩
  | 77 => ⟨S32x1, .f32⟩
  | 78 => ⟨S1x32, .f32⟩
  | 79 => ⟨S32x32, .f32⟩
  | 80 => ⟨S32x32, .f32⟩
  | 81 => ⟨S32x32, .f32⟩
  | 82 => ⟨S32x32, .f32⟩
  | 83 => ⟨S8x1x1, .f32⟩
  | 84 => ⟨S1x32x32, .f32⟩
  | 85 => ⟨S8x32x32, .f32⟩
  | 86 => ⟨S8x32x32, .f32⟩
  | 87 => ⟨S8x32x32, .f32⟩
  | 88 => ⟨S750x32x128, .f32⟩
  | 89 => ⟨S1x1x128, .f32⟩
  | 90 => ⟨S750x32x128, .f32⟩
  | 91 => ⟨S750x32x128, .f32⟩
  | 92 => ⟨S750x32x8x16, .f32⟩
  | 93 => ⟨S8x750x32x16, .f32⟩
  | 94 => ⟨S750x32x128, .f32⟩
  | 95 => ⟨S1x1x128, .f32⟩
  | 96 => ⟨S750x32x128, .f32⟩
  | 97 => ⟨S750x32x128, .f32⟩
  | 98 => ⟨S750x32x8x16, .f32⟩
  | 99 => ⟨S8x750x32x16, .f32⟩
  | 100 => ⟨S750x32x128, .f32⟩
  | 101 => ⟨S1x1x128, .f32⟩
  | 102 => ⟨S750x32x128, .f32⟩
  | 103 => ⟨S750x32x128, .f32⟩
  | 104 => ⟨S750x32x8x16, .f32⟩
  | 105 => ⟨S8x750x32x16, .f32⟩
  | 106 => ⟨S1x1x32x16, .f32⟩
  | 107 => ⟨S8x750x32x16, .f32⟩
  | 108 => ⟨S8x750x32x16, .f32⟩
  | 109 => ⟨S8x750x32x8, .f32⟩
  | 110 => ⟨S8x750x32x8, .f32⟩
  | 111 => ⟨S8x750x32x8, .f32⟩
  | 112 => ⟨S8x750x32x16, .f32⟩
  | 113 => ⟨S1x1x32x16, .f32⟩
  | 114 => ⟨S8x750x32x16, .f32⟩
  | 115 => ⟨S8x750x32x16, .f32⟩
  | 116 => ⟨S8x750x32x16, .f32⟩
  | 117 => ⟨S1x1x32x16, .f32⟩
  | 118 => ⟨S8x750x32x16, .f32⟩
  | 119 => ⟨S8x750x32x16, .f32⟩
  | 120 => ⟨S8x750x32x8, .f32⟩
  | 121 => ⟨S8x750x32x8, .f32⟩
  | 122 => ⟨S8x750x32x8, .f32⟩
  | 123 => ⟨S8x750x32x16, .f32⟩
  | 124 => ⟨S1x1x32x16, .f32⟩
  | 125 => ⟨S8x750x32x16, .f32⟩
  | 126 => ⟨S8x750x32x16, .f32⟩
  | 127 => ⟨S8x750x32x16, .f32⟩
  | _ => ⟨S32x750x128, .f32⟩

abbrev hbmTy0_1 (i : Nat) : BufTy := match i % 128 with
  | 0 => ⟨S8x750x32x32, .f32⟩
  | 1 => ⟨S8x1x32x32, .f32⟩
  | 2 => ⟨S8x750x32x32, .f32⟩
  | 3 => ⟨S8x750x32x32, .f32⟩
  | 4 => ⟨S_, .f32⟩
  | 5 => ⟨S8x750x32, .f32⟩
  | 6 => ⟨S_, .f32⟩
  | 7 => ⟨S8x750x32, .f32⟩
  | 8 => ⟨S8x750x32, .f32⟩
  | 9 => ⟨S8x750x32x1, .f32⟩
  | 10 => ⟨S8x750x32x32, .f32⟩
  | 11 => ⟨S8x750x32x32, .f32⟩
  | 12 => ⟨S8x750x32x32, .f32⟩
  | 13 => ⟨S_, .f32⟩
  | 14 => ⟨S8x750x32, .f32⟩
  | 15 => ⟨S8x750x32x1, .f32⟩
  | 16 => ⟨S8x750x32x32, .f32⟩
  | 17 => ⟨S8x750x32x32, .f32⟩
  | 18 => ⟨S8x750x32x16, .f32⟩
  | 19 => ⟨S750x32x8x16, .f32⟩
  | 20 => ⟨S750x32x128, .f32⟩
  | 21 => ⟨S750x32x128, .f32⟩
  | 22 => ⟨S_, .f32⟩
  | 23 => ⟨S750x32, .f32⟩
  | 24 => ⟨S750x32x1, .f32⟩
  | 25 => ⟨S_, .f32⟩
  | 26 => ⟨S750x32x1, .f32⟩
  | 27 => ⟨S750x32x1, .f32⟩
  | 28 => ⟨S750x32x128, .f32⟩
  | 29 => ⟨S750x32x128, .f32⟩
  | 30 => ⟨S750x32x128, .f32⟩
  | 31 => ⟨S_, .f32⟩
  | 32 => ⟨S750x32, .f32⟩
  | 33 => ⟨S750x32x1, .f32⟩
  | 34 => ⟨S_, .f32⟩
  | 35 => ⟨S750x32x1, .f32⟩
  | 36 => ⟨S750x32x1, .f32⟩
  | 37 => ⟨S750x32x128, .f32⟩
  | 38 => ⟨S750x32x128, .f32⟩
  | 39 => ⟨S_, .f32⟩
  | 40 => ⟨S750x32x1, .f32⟩
  | 41 => ⟨S750x32x1, .f32⟩
  | 42 => ⟨S750x32x1, .f32⟩
  | 43 => ⟨S750x32x128, .f32⟩
  | 44 => ⟨S750x32x128, .f32⟩
  | 45 => ⟨S1x1x128, .f32⟩
  | 46 => ⟨S750x32x128, .f32⟩
  | 47 => ⟨S750x32x128, .f32⟩
  | 48 => ⟨S1x1x128, .f32⟩
  | 49 => ⟨S750x32x128, .f32⟩
  | 50 => ⟨S750x32x128, .f32⟩
  | 51 => ⟨S750x32x512, .f32⟩
  | 52 => ⟨S1x1x512, .f32⟩
  | 53 => ⟨S750x32x512, .f32⟩
  | 54 => ⟨S750x32x512, .f32⟩
  | 55 => ⟨S_, .f32⟩
  | 56 => ⟨S750x32x512, .f32⟩
  | 57 => ⟨S750x32x512, .f32⟩
  | 58 => ⟨S750x32x128, .f32⟩
  | 59 => ⟨S1x1x128, .f32⟩
  | 60 => ⟨S750x32x128, .f32⟩
  | 61 => ⟨S750x32x128, .f32⟩
  | 62 => ⟨S750x32x128, .f32⟩
  | 63 => ⟨S_, .f32⟩
  | 64 => ⟨S750x32, .f32⟩
  | 65 => ⟨S750x32x1, .f32⟩
  | 66 => ⟨S_, .f32⟩
  | 67 => ⟨S750x32x1, .f32⟩
  | 68 => ⟨S750x32x1, .f32⟩
  | 69 => ⟨S750x32x128, .f32⟩
  | 70 => ⟨S750x32x128, .f32⟩
  | 71 => ⟨S750x32x128, .f32⟩
  | 72 => ⟨S_, .f32⟩
  | 73 => ⟨S750x32, .f32⟩
  | 74 => ⟨S750x32x1, .f32⟩
  | 75 => ⟨S_, .f32⟩
  | 76 => ⟨S750x32x1, .f32⟩
  | 77 => ⟨S750x32x1, .f32⟩
  | 78 => ⟨S750x32x128, .f32⟩
  | 79 => ⟨S750x32x128, .f32⟩
  | 80 => ⟨S_, .f32⟩
  | 81 => ⟨S750x32x1, .f32⟩
  | 82 => ⟨S750x32x1, .f32⟩
  | 83 => ⟨S750x32x1, .f32⟩
  | 84 => ⟨S750x32x128, .f32⟩
  | 85 => ⟨S750x32x128, .f32⟩
  | 86 => ⟨S1x1x128, .f32⟩
  | 87 => ⟨S750x32x128, .f32⟩
  | 88 => ⟨S750x32x128, .f32⟩
  | 89 => ⟨S1x1x128, .f32⟩
  | 90 => ⟨S750x32x128, .f32⟩
  | 91 => ⟨S750x32x128, .f32⟩
  | 92 => ⟨S32x750x128, .f32⟩
  | _ => ⟨S32x750x128, .f32⟩

abbrev hbmTy (i : Nat) : BufTy := match i / 128 with
  | 0 => hbmTy0_0 i
  | 1 => hbmTy0_1 i
  | _ => ⟨S32x750x128, .f32⟩

abbrev bufTy : (tb : Table) → Fin (tcTables nBuf tb) → BufTy
  | .hbm, ⟨i, _⟩ => hbmTy i
  | _, _ => ⟨S32x750x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_v1 : Ref sig .tc := ⟨.hbm, 38, rfl⟩
abbrev main_cst_1 : Ref sig .tc := ⟨.hbm, 39, rfl⟩
abbrev main_v2 : Ref sig .tc := ⟨.hbm, 40, rfl⟩
abbrev main_v3 : Ref sig .tc := ⟨.hbm, 41, rfl⟩
abbrev main_cst_2 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_cst_3 : Ref sig .tc := ⟨.hbm, 48, rfl⟩
abbrev main_v9 : Ref sig .tc := ⟨.hbm, 49, rfl⟩
abbrev main_v10 : Ref sig .tc := ⟨.hbm, 50, rfl⟩
abbrev main_cst_4 : Ref sig .tc := ⟨.hbm, 51, rfl⟩
abbrev main_v11 : Ref sig .tc := ⟨.hbm, 52, rfl⟩
abbrev main_v12 : Ref sig .tc := ⟨.hbm, 53, rfl⟩
abbrev main_cst_5 : Ref sig .tc := ⟨.hbm, 54, rfl⟩
abbrev main_v13 : Ref sig .tc := ⟨.hbm, 55, rfl⟩
abbrev main_v14 : Ref sig .tc := ⟨.hbm, 56, rfl⟩
abbrev main_cst_6 : Ref sig .tc := ⟨.hbm, 57, rfl⟩
abbrev main_v15 : Ref sig .tc := ⟨.hbm, 58, rfl⟩
abbrev main_v16 : Ref sig .tc := ⟨.hbm, 59, rfl⟩
abbrev main_cst_7 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_8 : Ref sig .tc := ⟨.hbm, 132, rfl⟩
abbrev main_v88 : Ref sig .tc := ⟨.hbm, 133, rfl⟩
abbrev main_cst_9 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_10 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_11 : Ref sig .tc := ⟨.hbm, 150, rfl⟩
abbrev main_v103 : Ref sig .tc := ⟨.hbm, 151, rfl⟩
abbrev main_v104 : Ref sig .tc := ⟨.hbm, 152, rfl⟩
abbrev main_cst_12 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_13 : Ref sig .tc := ⟨.hbm, 159, rfl⟩
abbrev main_v110 : Ref sig .tc := ⟨.hbm, 160, rfl⟩
abbrev main_v111 : Ref sig .tc := ⟨.hbm, 161, rfl⟩
abbrev main_cst_14 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_15 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_16 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_17 : Ref sig .tc := ⟨.hbm, 191, rfl⟩
abbrev main_v138 : Ref sig .tc := ⟨.hbm, 192, rfl⟩
abbrev main_v139 : Ref sig .tc := ⟨.hbm, 193, rfl⟩
abbrev main_cst_18 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_19 : Ref sig .tc := ⟨.hbm, 200, rfl⟩
abbrev main_v145 : Ref sig .tc := ⟨.hbm, 201, rfl⟩
abbrev main_v146 : Ref sig .tc := ⟨.hbm, 202, rfl⟩
abbrev main_cst_20 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_21 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩

abbrev nD : Nat := 1
abbrev τ : Topo := Topo.v7x

variable {F : FTy → Type} [FloatOps F]
-- ==== Proof.Blk.lean ====
/- The kernel's body as families over the block's 150 tokens, and the whole block in them. -/
module

public import proofs.«01_k».proof.Proof.Gen.KernelIdeal.Frame

@[expose] public section

noncomputable section

namespace Cert.KernelIdeal.Blk

open Idealize.ShloMosaic Cert.KernelIdeal Cert.KernelIdeal.Gen

variable {F : FTy → Type} [FloatOps F]

theorem slices_q (t : Fin 150) : S4800x128.Slices ![32 * t.val, 0] S32x128 :=
  ⟨rfl, fun a => by
    have := t.isLt
    match a with
    | 0 => show 32 * t.val + 32 ≤ 4800; omega
    | 1 => show 0 + 128 ≤ 128; omega⟩

theorem slices_k (t : Fin 150) : S38400x128.Slices ![256 * t.val, 0] S256x128 :=
  ⟨rfl, fun a => by
    have := t.isLt
    match a with
    | 0 => show 256 * t.val + 256 ≤ 38400; omega
    | 1 => show 0 + 128 ≤ 128; omega⟩

/-- The weights of token `t`: the exponentials of the scores of its rows against its stacked keys, times the decay's factor. -/
def wts (q : FVec F S4800x128 .bf16) (k : FVec F S38400x128 .bf16) (mk : FVec F S32x256 .bf16) (t : Fin 150) : FVec F S32x256 .bf16 :=
  mulf (truncf .bf16 (exp (matmul dot_S32x128_S256x128_S32x256_1_1_0_0_n_n none
    (extractStridedSlice S32x128 ![32 * t.val, 0] q (slices_q t))
    (extractStridedSlice S256x128 ![256 * t.val, 0] k (slices_k t)) (constant S32x256 .f32 0x00000000#32))) bitsLt_bf16_f32) mk

/-- The weighted values of token `t`. -/
def num (v : FVec F S38400x128 .bf16) (e : FVec F S32x256 .bf16) (t : Fin 150) : FVec F S32x128 .f32 :=
  matmul dot_S32x256_S256x128_S32x128_1_0_0_1_n_n none e (extractStridedSlice S256x128 ![256 * t.val, 0] v (slices_k t))
    (constant S32x128 .f32 0x00000000#32)

theorem cat_e (f : Fin 150 → FVec F S32x256 .bf16) :
    Shape.Concatenates ((List.ofFn fun n => (⟨S32x256, f n⟩ : (s : Shape) × (s.Idx → F .bf16))).map (·.1)) S4800x256 0 := by
  rw [List.map_ofFn]; exact (by decide : Shape.Concatenates (List.ofFn fun _ : Fin 150 => S32x256) S4800x256 0)

theorem cat_o (f : Fin 150 → FVec F S32x128 .f32) :
    Shape.Concatenates ((List.ofFn fun n => (⟨S32x128, f n⟩ : (s : Shape) × (s.Idx → F .f32))).map (·.1)) S4800x128 0 := by
  rw [List.map_ofFn]; exact (by decide : Shape.Concatenates (List.ofFn fun _ : Fin 150 => S32x128) S4800x128 0)

/-- The attention of the block's rows, and the residual. -/
def att (x : FVec F S4800x128 .f32) (q : FVec F S4800x128 .bf16) (k v : FVec F S38400x128 .bf16) (mk : FVec F S32x256 .bf16)
    (msk : FVec F S256x128 .bf16) : FVec F S4800x128 .f32 :=
  addf (divf (concatenate S4800x128 0 (List.ofFn fun t => ⟨S32x128, num v (wts q k mk t) t⟩) (cat_o fun t => num v (wts q k mk t) t))
    (matmul dot_S4800x256_S256x128_S4800x128_1_0_0_1_n_n none
      (concatenate S4800x256 0 (List.ofFn fun t => ⟨S32x256, wts q k mk t⟩) (cat_e fun t => wts q k mk t)) msk
      (constant S4800x128 .f32 0x00000000#32))) x

/-- Normalisation, the two layers and normalisation, from the attention's rows `y` on. -/
def rest (y : FVec F S4800x128 .f32) (g1 be1 : Vec F S1x128 .f32) (W1 : Vec F S128x512 .bf16) (b1 : Vec F S1x512 .f32)
    (W2 : Vec F S512x128 .bf16) (b2 g2 be2 : Vec F S1x128 .f32) : FVec F S4800x128 .f32 :=
  k0_pay329 (k0_pay327 y (k0_pay324 g1) (k0_pay325 be1)
    (shapeCast S4800x1 (multiReduction .add [1] S4800 y 0x00000000#32 reduces_S4800x128_S4800 (.inl rfl) rfl) shapeCasts_S4800_S4800x1)
    W1 b1 W2 b2) (k0_pay328 g2) be2

/-- The keys of the block, stacked by head. -/
def keys (x : Vec F S4800x128 .f32) (W : Vec F S128x384 .bf16) (b : Vec F S1x384 .f32) (cs sn : Vec F S32x128 .bf16)
    (fm : Vec F S8x128 .bf16) (gi : Vec F S1x128 .i32) : FVec F S38400x128 .bf16 :=
  k0_pay8 (k0_pay2 cs) (k0_pay3 sn) fm gi (k0_pay5 x W b)

end Cert.KernelIdeal.Blk

end
-- ==== Proof.BlkEq.lean ====
/- The body's payloads, one for each token, are the families' members. -/
module

public import proofs.«01_k».proof.Proof.Blk

@[expose] public section

noncomputable section

namespace Cert.KernelIdeal.Blk

open Idealize.ShloMosaic Cert.KernelIdeal Cert.KernelIdeal.Gen

variable {F : FTy → Type} [FloatOps F]

set_option maxRecDepth 65536 in
set_option maxHeartbeats 4000000 in
/-- The body's payloads are the families'. -/
theorem out_eq (x0 : Vec F S4800x128 .f32) (x1 : Vec F S128x384 .bf16) (x2 : Vec F S1x384 .f32) (x3 x4 : Vec F S1x128 .f32)
    (x5 : Vec F S128x512 .bf16) (x6 : Vec F S1x512 .f32) (x7 : Vec F S512x128 .bf16) (x8 x9 x10 : Vec F S1x128 .f32)
    (x11 x12 : Vec F S32x128 .bf16) (x13 : Vec F S32x256 .bf16) (x14 : Vec F S8x128 .bf16) (x15 : Vec F S256x128 .bf16)
    (x16 : Vec F S1x128 .i32) :
    out0_17 x0 x1 x2 x3 x4 x5 x6 x7 x8 x9 x10 x11 x12 x13 x14 x15 x16 =
      View.canon [⟨r0_0, rest (att (k0_pay1 (View.ld x0 r0_0))
        (k0_pay7 (View.ld x0 r0_0) (View.ld x11 r0_1) (View.ld x12 r0_1) (View.ld x16 r0_3) (View.ld x1 r0_4) (View.ld x2 r0_5))
        (keys (View.ld x0 r0_0) (View.ld x1 r0_4) (View.ld x2 r0_5) (View.ld x11 r0_1) (View.ld x12 r0_1) (View.ld x14 r0_2) (View.ld x16 r0_3))
        (k0_pay9 (View.ld x14 r0_2) (k0_pay6 (View.ld x0 r0_0) (View.ld x1 r0_4) (View.ld x2 r0_5)))
        (k0_pay10 (View.ld x13 r0_6)) (View.ld x15 r0_7))
        (View.ld x3 r0_3) (View.ld x4 r0_3) (View.ld x5 r0_8) (View.ld x6 r0_9) (View.ld x7 r0_10) (View.ld x8 r0_3) (View.ld x9 r0_3)
        (View.ld x10 r0_3)⟩] := by
  unfold out0_17
  rfl

end Cert.KernelIdeal.Blk

end
-- ==== Proof.Alg.lean ====
/- The arithmetic of one attention block over the extended reals, apart from any program: the sums over the
   head-masked lanes collapse to the sums over one head, the unnormalised quotient is the softmax average when the
   scores are real, and a product with the reciprocal root is the quotient by the root. -/
module

public import Idealize.ShloMosaic.PureOps.Ideal

@[expose] public section

noncomputable section

namespace Cert.Attn

open Idealize.ShloMosaic

/-! ## Real values among the extended reals -/

/-- The value is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem IsReal.max {x y : EReal} (hx : IsReal x) (hy : IsReal y) : IsReal (max x y) := by
  rcases max_choice x y with h | h <;> rw [h] <;> assumption

theorem isReal_of_bounds {x : EReal} (h : Max.max x (-x) < ⊤) : IsReal x := by
  induction x with
  | bot => simp at h
  | top => simp at h
  | coe r => exact ⟨r, rfl⟩

/-! ## Sums over an axis that is a product of two -/

/-- A sum over `m · n` entries is the sum over the `m` groups of `n`. -/
theorem sum_split (m n N : ℕ) (hN : m * n = N) (f : Fin N → EReal) :
    ∑ s, f s = ∑ h : Fin m, ∑ j : Fin n, f ⟨n * h + j, by
      subst hN
      have := h.isLt; have := j.isLt
      calc n * h.val + j.val < n * h.val + n := by omega
        _ = n * (h.val + 1) := by ring
        _ ≤ n * m := Nat.mul_le_mul_left _ (by omega)
        _ = m * n := by ring⟩ := by
  subst hN
  rw [← finProdFinEquiv.sum_comp, Fintype.sum_prod_type]
  refine Finset.sum_congr rfl fun h _ => Finset.sum_congr rfl fun j _ => congrArg f (Fin.ext ?_)
  simp [finProdFinEquiv]; ring

/-- A sum over `m · n` entries whose terms vanish outside group `g` is the sum over that group. -/
theorem sum_group (m n N : ℕ) (hN : m * n = N) (f : Fin N → EReal) (g : Fin m) (e : Fin n → Fin N)
    (he : ∀ j, (e j).val = n * g + j) (hz : ∀ s : Fin N, s.val / n ≠ g.val → f s = 0) :
    ∑ s, f s = ∑ j : Fin n, f (e j) := by
  rw [sum_split m n N hN, Finset.sum_eq_single g]
  · exact Finset.sum_congr rfl fun j _ => congrArg f (Fin.ext (he j).symm)
  · intro h _ hne
    refine Finset.sum_eq_zero fun j _ => hz _ ?_
    have hj := j.isLt
    show (n * h.val + j.val) / n ≠ g.val
    rw [Nat.mul_add_div (by omega), Nat.div_eq_of_lt hj, Nat.add_zero]
    exact fun hh => hne (Fin.ext hh)
  · intro h; exact absurd (Finset.mem_univ g) h

/-- A nonnegative real factor comes out of a sum of extended reals. -/
theorem mul_sum_of_real {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih, EReal.coe_add]

/-! ## The softmax average is the unnormalised quotient -/

/-- Real scores `s` and additive masks `m`, any real shift `M`: the average of `v` under the softmax of `s + m` is the
    quotient of the two sums with weights `exp s · exp m`. -/
theorem softmax_eq {n : ℕ} (hn : 0 < n) (s m : Fin n → EReal) (v : Fin n → EReal) (M : EReal)
    (hs : ∀ j, IsReal (s j)) (hm : ∀ j, IsReal (m j)) (hM : IsReal M) :
    ∑ j, Ideal.div (Ideal.exp (s j + m j - M)) (∑ k, Ideal.exp (s k + m k - M)) * v j
      = Ideal.div (∑ j, Ideal.exp (s j) * Ideal.exp (m j) * v j) (∑ j, Ideal.exp (s j) * Ideal.exp (m j)) := by
  choose s' hs' using hs
  choose m' hm' using hm
  obtain ⟨M', rfl⟩ := hM
  have hE : ∀ j, Ideal.exp (s j) * Ideal.exp (m j) = ((Real.exp (s' j + m' j) : ℝ) : EReal) := fun j => by
    rw [hs', hm', Ideal.exp_coe, Ideal.exp_coe, ← EReal.coe_mul, Real.exp_add]
  have hL : ∀ j, Ideal.exp (s j + m j - (M' : EReal)) = ((Real.exp (s' j + m' j) * Real.exp (-M') : ℝ) : EReal) := fun j => by
    rw [hs', hm', ← EReal.coe_add, ← EReal.coe_sub, Ideal.exp_coe, ← Real.exp_add, sub_eq_add_neg]
  simp only [hE, hL, ← coe_sum]
  have hZ : 0 < ∑ j : Fin n, Real.exp (s' j + m' j) :=
    Finset.sum_pos (fun _ _ => Real.exp_pos _) ⟨⟨0, hn⟩, Finset.mem_univ _⟩
  set Z := ∑ j : Fin n, Real.exp (s' j + m' j) with hZdef
  have hD := Real.exp_pos (-M')
  have hsum : ∑ j : Fin n, Real.exp (s' j + m' j) * Real.exp (-M') = Z * Real.exp (-M') := by
    rw [hZdef, Finset.sum_mul]
  rw [hsum, show Ideal.div (∑ j, ((Real.exp (s' j + m' j) : ℝ) : EReal) * v j) (Z : EReal)
      = (Z⁻¹ : ℝ) * ∑ j, ((Real.exp (s' j + m' j) : ℝ) : EReal) * v j from by
    rw [Ideal.div, if_neg (by exact_mod_cast hZ.ne'), mul_comm, ← EReal.coe_inv],
    mul_sum_of_real _ _ (inv_nonneg.2 hZ.le)]
  refine Finset.sum_congr rfl fun j _ => ?_
  rw [Ideal.div, if_neg (by exact_mod_cast (mul_pos hZ hD).ne'), ← EReal.coe_inv, ← EReal.coe_mul, ← mul_assoc, ← EReal.coe_mul]
  congr 2
  field_simp

/-! ## The normalisation -/

theorem mul_self_nonneg' (x : EReal) : 0 ≤ x * x := by
  induction x with
  | bot => simp
  | top => simp
  | coe r => rw [← EReal.coe_mul]; exact_mod_cast mul_self_nonneg r

/-- The product with the reciprocal root is the quotient by the root, of a positive value. -/
theorem mul_rsqrt (a w : EReal) (hw : 0 < w) : a * Ideal.rsqrt w = Ideal.div a (Ideal.sqrt w) := by
  induction w with
  | bot => simp at hw
  | top => simp [Ideal.div]
  | coe r =>
    have hr : 0 < r := by exact_mod_cast hw
    have hs : 0 < Real.sqrt r := Real.sqrt_pos.2 hr
    rw [Ideal.rsqrt_coe, Ideal.sqrt_coe, if_neg (not_lt.2 hr.le), if_neg (not_lt.2 hr.le), if_neg hr.ne', Ideal.div,
      if_neg (by exact_mod_cast hs.ne'), ← EReal.coe_inv]

end Cert.Attn

end
-- ==== Proof.Spec.lean ====
/- One attention block in the kernel's arrangement: every head's keys and values laid below each other with the other
   heads' lanes zeroed, so that one product gives all the heads' scores. Each piece equals the head-by-head one. -/
module

public import proofs.«01_k».proof.Proof.Alg

@[expose] public section

noncomputable section

namespace Cert.Attn

open Idealize.ShloMosaic

/-- The head of a lane. -/
def hd (c : Fin 128) : Fin 8 := ⟨c.val / 16, by omega⟩

/-- The lane's place in its head. -/
def dd (c : Fin 128) : Fin 16 := ⟨c.val % 16, by omega⟩

/-- Lane `d` of head `h`. -/
def lane (h : Fin 8) (d : Fin 16) : Fin 128 := ⟨16 * h.val + d.val, by omega⟩

/-- The head of a row of the stacked keys of one token. -/
def kh (s : Fin 256) : Fin 8 := ⟨s.val / 32, by omega⟩

/-- The frame of a row of the stacked keys of one token. -/
def kj (s : Fin 256) : Fin 32 := ⟨s.val % 32, by omega⟩

/-- Row `j` of head `h` among the stacked keys. -/
def krow (h : Fin 8) (j : Fin 32) : Fin 256 := ⟨32 * h.val + j.val, by omega⟩

/-- The lane that the rotation pairs with `c`. -/
def pair (c : Fin 128) : Fin 128 :=
  if h : c.val % 16 < 8 then ⟨16 * (c.val / 16) + 2 * (c.val % 16) + 1, by omega⟩
  else ⟨16 * (c.val / 16) + 2 * (c.val % 16 - 8), by omega⟩

/-- The sign that the rotation gives the paired lane. -/
def sgn (c : Fin 128) : EReal := if c.val % 16 < 8 then -1 else 1

/-- The lane mask of the heads. -/
def fm (h : Fin 8) (c : Fin 128) : EReal := if c.val / 16 = h.val then 1 else 0

/-- The lane mask of the stacked rows. -/
def ms (s : Fin 256) (c : Fin 128) : EReal := if c.val / 16 = s.val / 32 then 1 else 0

/-- A row times a matrix plus a bias. -/
def proj {m : ℕ} (x : Fin 128 → EReal) (W : Fin 128 → Fin m → EReal) (b : Fin m → EReal) (c : Fin m) : EReal :=
  ∑ k, x k * W k c + b c

/-- The rotation of a row by the tables' row. -/
def rot (t : Fin 128 → EReal) (cs sn : Fin 128 → EReal) (c : Fin 128) : EReal := t c * cs c + t (pair c) * sn c

/-- The score of a query row against row `s` of the stacked keys. -/
def scoreK (q : Fin 128 → EReal) (k : Fin 32 → Fin 128 → EReal) (s : Fin 256) : EReal :=
  ∑ c, q c * (k (kj s) c * fm (kh s) c)

/-- The score of a query row against row `j` of head `h`. -/
def score (q : Fin 128 → EReal) (k : Fin 32 → Fin 128 → EReal) (h : Fin 8) (j : Fin 32) : EReal :=
  ∑ d, q (lane h d) * k j (lane h d)

theorem kh_krow (h : Fin 8) (j : Fin 32) : kh (krow h j) = h := Fin.ext (by simp only [kh, krow]; omega)
theorem kj_krow (h : Fin 8) (j : Fin 32) : kj (krow h j) = j := Fin.ext (by simp only [kj, krow]; omega)
theorem hd_lane (h : Fin 8) (d : Fin 16) : hd (lane h d) = h := Fin.ext (by simp only [hd, lane]; omega)
theorem dd_lane (h : Fin 8) (d : Fin 16) : dd (lane h d) = d := Fin.ext (by simp only [dd, lane]; omega)
theorem lane_hd_dd (c : Fin 128) : lane (hd c) (dd c) = c := Fin.ext (by simp only [hd, dd, lane]; omega)

theorem fm_lane (h : Fin 8) (d : Fin 16) : fm h (lane h d) = 1 := if_pos (by simp only [lane]; omega)

theorem scoreK_eq (q : Fin 128 → EReal) (k : Fin 32 → Fin 128 → EReal) (s : Fin 256) :
    scoreK q k s = score q k (kh s) (kj s) := by
  unfold scoreK score
  rw [sum_group 8 16 128 rfl _ (kh s) (lane (kh s)) (fun _ => rfl)]
  · exact Finset.sum_congr rfl fun d _ => by rw [fm_lane, mul_one]
  · intro c hc
    rw [fm, if_neg hc, mul_zero, mul_zero]

/-- The attention of one query row at lane `c`, in the kernel's arrangement: the masked sum of the weighted values over
    the masked sum of the weights, `mk` the factor from the decay. -/
def attnK (q : Fin 128 → EReal) (k v : Fin 32 → Fin 128 → EReal) (mk : Fin 256 → EReal) (c : Fin 128) : EReal :=
  Ideal.div (∑ s, Ideal.exp (scoreK q k s) * mk s * (v (kj s) c * fm (kh s) c))
    (∑ s, Ideal.exp (scoreK q k s) * mk s * ms s c)

/-- The attention of one query row at lane `c` head by head, with the scores shifted by `M`. -/
def attnR (q : Fin 128 → EReal) (k v : Fin 32 → Fin 128 → EReal) (dm : Fin 8 → Fin 32 → EReal) (M : Fin 8 → EReal) (c : Fin 128) :
    EReal :=
  ∑ j, Ideal.div (Ideal.exp (score q k (hd c) j + dm (hd c) j - M (hd c)))
    (∑ j', Ideal.exp (score q k (hd c) j' + dm (hd c) j' - M (hd c))) * v j c

theorem isReal_score {q : Fin 128 → EReal} {k : Fin 32 → Fin 128 → EReal} (hq : ∀ c, IsReal (q c)) (hk : ∀ j c, IsReal (k j c))
    (h : Fin 8) (j : Fin 32) : IsReal (score q k h j) := IsReal.sum _ fun _ => (hq _).mul (hk _ _)

theorem attnK_eq (q : Fin 128 → EReal) (k v : Fin 32 → Fin 128 → EReal) (dm : Fin 8 → Fin 32 → EReal) (M : Fin 8 → EReal)
    (hq : ∀ c, IsReal (q c)) (hk : ∀ j c, IsReal (k j c)) (hm : ∀ h j, IsReal (dm h j)) (hM : ∀ h, IsReal (M h)) (c : Fin 128) :
    attnK q k v (fun s => Ideal.exp (dm (kh s) (kj s))) c = attnR q k v dm M c := by
  unfold attnK attnR
  rw [softmax_eq (by decide) _ _ _ _ (fun j => isReal_score hq hk (hd c) j) (hm (hd c)) (hM (hd c)),
    sum_group 8 32 256 rfl _ (hd c) (krow (hd c)) (fun _ => rfl),
    sum_group 8 32 256 rfl _ (hd c) (krow (hd c)) (fun _ => rfl)]
  · congr 1
    · refine Finset.sum_congr rfl fun j _ => ?_
      simp only [scoreK_eq, kh_krow, kj_krow]
      rw [fm, if_pos (by rfl), mul_one]
    · refine Finset.sum_congr rfl fun j _ => ?_
      simp only [scoreK_eq, kh_krow, kj_krow]
      rw [ms, if_pos (by simp only [krow, hd]; omega), mul_one]
  · intro s hs
    rw [ms, if_neg (fun h => hs h.symm), mul_zero]
  · intro s hs
    rw [fm, if_neg (fun h => hs h.symm), mul_zero, mul_zero]

theorem rot_isReal {t cs sn : Fin 128 → EReal} (ht : ∀ c, IsReal (t c)) (hc : ∀ c, IsReal (cs c)) (hs : ∀ c, IsReal (sn c)) (c : Fin 128) :
    IsReal (rot t cs sn c) := ((ht _).mul (hc _)).add ((ht _).mul (hs _))

theorem proj_isReal {m : ℕ} {x : Fin 128 → EReal} {W : Fin 128 → Fin m → EReal} {b : Fin m → EReal} (hx : ∀ c, IsReal (x c))
    (hW : ∀ k c, IsReal (W k c)) (hb : ∀ c, IsReal (b c)) (c : Fin m) : IsReal (proj x W b c) :=
  (IsReal.sum _ fun _ => (hx _).mul (hW _ _)).add (hb _)

/-- A sign at the table's entry is a sign at the paired lane. -/
theorem mul_sgn (t s : EReal) (c : Fin 128) : t * (s * sgn c) = (if c.val % 16 < 8 then -t else t) * s := by
  unfold sgn
  split
  · rw [mul_neg, mul_one, mul_neg, neg_mul]
  · rw [mul_one]

/-! ## The rest of the block -/

/-- The mean of a row. -/
def mean (y : Fin 128 → EReal) : EReal := Ideal.div (∑ c, y c) 128

/-- The variance of a row, and the small constant. -/
def vareps (eps : EReal) (y : Fin 128 → EReal) : EReal := mean (fun c => (y c - mean y) * (y c - mean y)) + eps

/-- Normalisation of a row by the reciprocal root. -/
def lnK (eps : EReal) (y g b : Fin 128 → EReal) (c : Fin 128) : EReal :=
  (y c - mean y) * Ideal.rsqrt (vareps eps y) * g c + b c

/-- Normalisation of a row by the root. -/
def lnR (eps : EReal) (y g b : Fin 128 → EReal) (c : Fin 128) : EReal :=
  Ideal.div (y c - mean y) (Ideal.sqrt (vareps eps y)) * g c + b c

theorem vareps_pos (eps : EReal) (he : 0 < eps) (y : Fin 128 → EReal) : 0 < vareps eps y := by
  refine lt_of_lt_of_le he (le_add_of_nonneg_left ?_)
  rw [mean, Ideal.div, if_neg (by norm_num)]
  refine mul_nonneg (Finset.sum_nonneg fun c _ => mul_self_nonneg' _) ?_
  rw [show (128 : EReal) = ((128 : ℝ) : EReal) from rfl, ← EReal.coe_inv]
  exact_mod_cast (by norm_num : (0 : ℝ) ≤ 128⁻¹)

theorem lnK_eq (eps : EReal) (he : 0 < eps) (y g b : Fin 128 → EReal) : lnK eps y g b = lnR eps y g b := by
  funext c
  rw [lnK, lnR, mul_rsqrt _ _ (vareps_pos eps he y)]

/-- The two layers with the rectifier between them. -/
def ffn (y : Fin 128 → EReal) (W1 : Fin 128 → Fin 512 → EReal) (b1 : Fin 512 → EReal) (W2 : Fin 512 → Fin 128 → EReal)
    (b2 : Fin 128 → EReal) (c : Fin 128) : EReal :=
  ∑ k, max (proj y W1 b1 k) 0 * W2 k c + b2 c

/-- From the attention's row on: the residual, the normalisation `ln`, the layers, the residual, the normalisation. -/
def tail (ln : (Fin 128 → EReal) → (Fin 128 → EReal) → (Fin 128 → EReal) → Fin 128 → EReal) (a x g1 be1 : Fin 128 → EReal)
    (W1 : Fin 128 → Fin 512 → EReal) (b1 : Fin 512 → EReal) (W2 : Fin 512 → Fin 128 → EReal) (b2 g2 be2 : Fin 128 → EReal) :
    Fin 128 → EReal :=
  ln (fun c => ffn (ln (fun c => a c + x c) g1 be1) W1 b1 W2 b2 c + ln (fun c => a c + x c) g1 be1 c) g2 be2

end Cert.Attn

end
-- ==== Proof.Lits.lean ====
/- The kernel's literal tables: the lane masks, the pairing of the lanes and the signs. -/
module

public import proofs.«01_k».proof.Proof.Gen.KernelIdeal.Frame

@[expose] public section

noncomputable section

namespace Cert.KernelIdeal.Lits

open Idealize.ShloMosaic Cert.KernelIdeal

set_option maxRecDepth 100000

theorem lit0_eq : ∀ i : Fin 128, lit0 i = if i.val % 16 < 8 then 0xBF800000#32 else 0x3F800000#32 := by decide +kernel

theorem lit1_eq : ∀ i : Fin 1024, lit1 i = if i.val % 128 / 16 = i.val / 128 then 0x3F80#16 else 0x0000#16 := by decide +kernel

theorem lit3_eq : ∀ i : Fin 128, (lit3 i).toNat =
    if i.val % 16 < 8 then 16 * (i.val / 16) + 2 * (i.val % 16) + 1 else 16 * (i.val / 16) + 2 * (i.val % 16 - 8) := by
  decide +kernel

end Cert.KernelIdeal.Lits

end
-- ==== Proof.Tab.lean ====
/- The rotation's and the decay's tables as real numbers' functions, and the host operations that compute them on both sides. -/
module

public import proofs.«01_k».proof.Proof.Spec
public import proofs.«01_k».proof.Proof.Lits
public import proofs.«01_k».proof.Proof.Gen.KernelIdeal.Frame
public import proofs.«01_k».proof.Proof.Gen.ReferenceIdeal.Read
public import Idealize.ShloMosaic.Lib.StableHlo.ReadAt
public import Idealize.ShloMosaic.Lib.Pointwise
public import Idealize.ShloMosaic.Lib.IdealHost

@[expose] public section

noncomputable section

namespace Cert.Attn

open Idealize.ShloMosaic

/-- A small integer as a float. -/
def fl (n : ℕ) : EReal := FloatOps.sitofp (F := Ideal) FTy.f32 (BitVec.ofNat 32 n)

/-- Eight points from nought to one. -/
def lin (p : ℕ) : EReal :=
  if p < 7 then 0 * (1 - Ideal.div (fl p) (Ideal.ofBits FTy.f32 0x40E00000#32)) + 1 * Ideal.div (fl p) (Ideal.ofBits FTy.f32 0x40E00000#32)
  else 1

/-- The angle of lane `d` of a head. -/
def ang (d : ℕ) : EReal := Ideal.div 1 (Ideal.pow (Ideal.ofBits FTy.f32 0x461C4000#32) (lin (d / 2)))

/-- The cosine at frame `i`, lane `d` of a head. -/
def csT (i d : ℕ) : EReal := Ideal.cos (fl i * ang d)

/-- The sine at frame `i`, lane `d` of a head. -/
def snT (i d : ℕ) : EReal := Ideal.sin (fl i * ang d)

/-- The logarithm of head `h`'s decay. -/
def dec (h : ℕ) : EReal :=
  Ideal.log (1 - Ideal.pow (Ideal.ofBits FTy.f32 0x40000000#32)
    (Ideal.ofBits FTy.f32 0xBF800000#32 - Ideal.div (Ideal.ofBits FTy.f32 0x40400000#32 * fl h) (Ideal.ofBits FTy.f32 0x41000000#32)))

/-- The distance of two frames. -/
def dist (i j : ℕ) : EReal := FloatOps.absf (F := Ideal) (φ := .f32) (fl i - fl j)

/-- What the decay adds to the score of frames `i` and `j` of head `h`. -/
def dmT (h i j : ℕ) : EReal := dist i j * dec h

theorem isReal_fl (n : ℕ) : IsReal (fl n) := .coe _

theorem ofBits_seven : Ideal.ofBits FTy.f32 0x40E00000#32 = ((7 : ℝ) : EReal) := by
  simp [Ideal.ofBits, Ideal.ieee, -EReal.coe_mul]; norm_num
theorem ofBits_tenk : Ideal.ofBits FTy.f32 0x461C4000#32 = ((10000 : ℝ) : EReal) := by
  simp [Ideal.ofBits, Ideal.ieee, -EReal.coe_mul]; norm_num
theorem ofBits_two : Ideal.ofBits FTy.f32 0x40000000#32 = ((2 : ℝ) : EReal) := by
  simp [Ideal.ofBits, Ideal.ieee, -EReal.coe_mul]; norm_num
theorem ofBits_three : Ideal.ofBits FTy.f32 0x40400000#32 = ((3 : ℝ) : EReal) := by
  simp [Ideal.ofBits, Ideal.ieee, -EReal.coe_mul]; norm_num
theorem ofBits_eight : Ideal.ofBits FTy.f32 0x41000000#32 = ((8 : ℝ) : EReal) := by
  simp [Ideal.ofBits, Ideal.ieee, -EReal.coe_mul]; norm_num
theorem ofBits_neg_one : Ideal.ofBits FTy.f32 0xBF800000#32 = ((-1 : ℝ) : EReal) := by
  simp [Ideal.ofBits, Ideal.ieee, -EReal.coe_mul, -EReal.coe_neg]; norm_num
theorem ofBits_128 : Ideal.ofBits FTy.f32 0x43000000#32 = ((128 : ℝ) : EReal) := by
  simp [Ideal.ofBits, Ideal.ieee, -EReal.coe_mul]; norm_num
theorem ofBits_eps_pos : 0 < Ideal.ofBits FTy.f32 0x3727C5AC#32 := by
  simp [Ideal.ofBits, Ideal.ieee, -EReal.coe_mul]

theorem isReal_div {x : EReal} (hx : IsReal x) {r : ℝ} (hr : r ≠ 0) : IsReal (Ideal.div x (r : EReal)) := by
  rw [Ideal.div_coe hr]; exact hx.mul (.coe _)

theorem isReal_lin (p : ℕ) : IsReal (lin p) := by
  unfold lin
  rw [ofBits_seven]
  have h := isReal_div (isReal_fl p) (by norm_num : (7 : ℝ) ≠ 0)
  split
  · exact (IsReal.zero.mul (IsReal.one.sub h)).add (IsReal.one.mul h)
  · exact .one

theorem isReal_ang (d : ℕ) : IsReal (ang d) := by
  obtain ⟨r, hr⟩ := isReal_lin (d / 2)
  unfold ang
  rw [hr, ofBits_tenk]
  exact isReal_div .one (Real.rpow_pos_of_pos (by norm_num) r).ne'

theorem isReal_csT (i d : ℕ) : IsReal (csT i d) := by
  obtain ⟨r, hr⟩ := (isReal_fl i).mul (isReal_ang d)
  unfold csT; rw [hr]; exact .coe _

theorem isReal_snT (i d : ℕ) : IsReal (snT i d) := by
  obtain ⟨r, hr⟩ := (isReal_fl i).mul (isReal_ang d)
  unfold snT; rw [hr]; exact .coe _

theorem isReal_dec (h : ℕ) (hh : h < 8) : IsReal (dec h) := by
  have hf : fl h = ((h : ℝ) : EReal) := by
    unfold fl
    show (((BitVec.ofNat 32 h).toInt : ℝ) : EReal) = _
    rw [BitVec.toInt_ofNat', Int.bmod_eq_of_le (by omega) (by omega)]
    norm_cast
  unfold dec
  rw [hf, ofBits_two, ofBits_three, ofBits_eight, ofBits_neg_one, ← EReal.coe_mul, Ideal.div_coe (by norm_num : (8 : ℝ) ≠ 0),
    ← EReal.coe_mul, ← EReal.coe_sub]
  show IsReal (Ideal.log (1 - ((Real.rpow 2 (-1 - 3 * h * (1 / 8)) : ℝ) : EReal)))
  rw [← EReal.coe_one, ← EReal.coe_sub, Ideal.log_coe, if_neg]
  · exact .coe _
  · have : Real.rpow 2 (-1 - 3 * h * (1 / 8)) < 1 :=
      Real.rpow_lt_one_of_one_lt_of_neg (by norm_num) (by have : (0 : ℝ) ≤ h := Nat.cast_nonneg h; linarith)
    linarith

theorem isReal_dist (i j : ℕ) : IsReal (dist i j) := by
  have h := (isReal_fl i).sub (isReal_fl j)
  exact h.max h.neg

theorem isReal_dmT (h i j : ℕ) (hh : h < 8) : IsReal (dmT h i j) := (isReal_dist i j).mul (isReal_dec h hh)

end Cert.Attn

end
-- ==== Proof.Whole.lean ====
/- The whole block of attention as a function of the arguments, in the kernel's arrangement and in the reference's, and
   their equality where the scores' arguments are real. -/
module

public import proofs.«01_k».proof.Proof.Tab

@[expose] public section

noncomputable section

namespace Cert.Attn

open Idealize.ShloMosaic

/-- The arguments' elements. -/
structure Args where
  x : Fin 32 → Fin 750 → Fin 128 → EReal
  Wq : Fin 128 → Fin 128 → EReal
  bq : Fin 128 → EReal
  Wk : Fin 128 → Fin 128 → EReal
  bk : Fin 128 → EReal
  Wv : Fin 128 → Fin 128 → EReal
  bv : Fin 128 → EReal
  g1 : Fin 128 → EReal
  be1 : Fin 128 → EReal
  W1 : Fin 128 → Fin 512 → EReal
  b1 : Fin 512 → EReal
  W2 : Fin 512 → Fin 128 → EReal
  b2 : Fin 128 → EReal
  g2 : Fin 128 → EReal
  be2 : Fin 128 → EReal

/-- The small constant of the normalisations. -/
def eps : EReal := Ideal.ofBits FTy.f32 0x3727C5AC#32

/-- A row of cosines, the heads beside each other. -/
def csRow (i : Fin 32) (c : Fin 128) : EReal := csT i.val (c.val % 16)

/-- A row of sines with the rotation's signs. -/
def snRow (i : Fin 32) (c : Fin 128) : EReal := snT i.val (c.val % 16) * sgn c

/-- The rotation with the sign at the paired lane. -/
def rotR (t : Fin 128 → EReal) (i : Fin 32) (c : Fin 128) : EReal :=
  t c * csT i.val (c.val % 16) + (if c.val % 16 < 8 then -t (pair c) else t (pair c)) * snT i.val (c.val % 16)

theorem rotR_eq (t : Fin 128 → EReal) (i : Fin 32) : rotR t i = rot t (csRow i) (snRow i) := by
  funext c
  rw [rot, snRow, mul_sgn, rotR, csRow]

namespace Args

variable (A : Args)

/-- The query row of token `n`, frame `i`. -/
def q (n : Fin 750) (i : Fin 32) : Fin 128 → EReal := rotR (proj (A.x i n) A.Wq A.bq) i

/-- The key row. -/
def k (n : Fin 750) (i : Fin 32) : Fin 128 → EReal := rotR (proj (A.x i n) A.Wk A.bk) i

/-- The value row. -/
def v (n : Fin 750) (i : Fin 32) : Fin 128 → EReal := proj (A.x i n) A.Wv A.bv

/-- The result's row from the attention's row. -/
def fin (ln : (Fin 128 → EReal) → (Fin 128 → EReal) → (Fin 128 → EReal) → Fin 128 → EReal) (a : Fin 128 → EReal) (n : Fin 750) (i : Fin 32) :
    Fin 128 → EReal :=
  tail ln a (A.x i n) A.g1 A.be1 A.W1 A.b1 A.W2 A.b2 A.g2 A.be2

/-- The result as the kernel arranges it. -/
def kout (n : Fin 750) (i : Fin 32) : Fin 128 → EReal :=
  A.fin (lnK eps) (attnK (A.q n i) (A.k n) (A.v n) fun s => Ideal.exp (dmT (kh s).val i.val (kj s).val)) n i

/-- The result as the reference arranges it, the scores of head `h` shifted by `M h`. -/
def rout (M : Fin 8 → EReal) (n : Fin 750) (i : Fin 32) : Fin 128 → EReal :=
  A.fin (lnR eps) (attnR (A.q n i) (A.k n) (A.v n) (fun h j => dmT h.val i.val j.val) M) n i

/-- The arguments of the scores are real. -/
structure Real : Prop where
  x : ∀ i n c, IsReal (A.x i n c)
  Wq : ∀ k c, IsReal (A.Wq k c)
  bq : ∀ c, IsReal (A.bq c)
  Wk : ∀ k c, IsReal (A.Wk k c)
  bk : ∀ c, IsReal (A.bk c)

theorem isReal_csRow (i : Fin 32) (c : Fin 128) : IsReal (csRow i c) := isReal_csT _ _

theorem isReal_snRow (i : Fin 32) (c : Fin 128) : IsReal (snRow i c) := by
  refine (isReal_snT _ _).mul ?_
  unfold sgn
  split
  · exact IsReal.one.neg
  · exact .one

variable {A}

theorem Real.q (h : A.Real) (n : Fin 750) (i : Fin 32) (c : Fin 128) : IsReal (A.q n i c) := by
  unfold Args.q
  rw [rotR_eq]
  exact rot_isReal (proj_isReal (h.x i n) h.Wq h.bq) (isReal_csRow i) (isReal_snRow i) c

theorem Real.k (h : A.Real) (n : Fin 750) (i : Fin 32) (c : Fin 128) : IsReal (A.k n i c) := by
  unfold Args.k
  rw [rotR_eq]
  exact rot_isReal (proj_isReal (h.x i n) h.Wk h.bk) (isReal_csRow i) (isReal_snRow i) c

theorem kout_eq (h : A.Real) (M : Fin 8 → EReal) (hM : ∀ h, IsReal (M h)) (n : Fin 750) (i : Fin 32) : A.kout n i = A.rout M n i := by
  have e : attnK (A.q n i) (A.k n) (A.v n) (fun s => Ideal.exp (dmT (kh s).val i.val (kj s).val)) =
      attnR (A.q n i) (A.k n) (A.v n) (fun h j => dmT h.val i.val j.val) M :=
    funext fun c => attnK_eq _ _ _ (fun h j => dmT h.val i.val j.val) M (h.q n i) (h.k n) (fun h j => isReal_dmT _ _ _ h.isLt) hM c
  have el : lnK eps = lnR eps := by
    funext y g b; exact lnK_eq eps ofBits_eps_pos y g b
  rw [kout, rout, e, el]

end Args

end Cert.Attn

end
-- ==== Proof.BlkAt.lean ====
/- The block's families read at an index: one row of the kernel's block is one row of the specification. -/
module

public import proofs.«01_k».proof.Proof.BlkEq
public import proofs.«01_k».proof.Proof.Whole
public import Idealize.ShloMosaic.Lib.Pipeline.Value

@[expose] public section

noncomputable section

namespace Cert.KernelIdeal.Blk

open Idealize.ShloMosaic Cert.KernelIdeal Cert.KernelIdeal.Gen Cert.Attn

/-- Column `c` of the part of the joint projection that begins at `o`. -/
def sub (o : ℕ) (h : o ≤ 256) (c : Fin 128) : Fin 384 := ⟨o + c.val, by omega⟩

/-- Row `i` of token `t` in the block. -/
def rowOf (t : Fin 150) (i : Fin 32) : Fin 4800 := ⟨32 * t.val + i.val, by omega⟩

/-- Row `s` of token `t`'s stacked keys. -/
def stk (t : Fin 150) (s : Fin 256) : Fin 38400 := ⟨256 * t.val + s.val, by omega⟩

/-- One part of the joint projection of one row. -/
def pj (x : Vec Ideal S4800x128 .f32) (W : Vec Ideal S128x384 .bf16) (b : Vec Ideal S1x384 .f32) (o : ℕ) (h : o ≤ 256) (r : Fin 4800) :
    Fin 128 → EReal :=
  proj (fun k => x (ix2 r k)) (fun k c => W (ix2 k (sub o h c))) (fun c => b (ix2 0 (sub o h c)))

theorem pay4_at (x : Vec Ideal S4800x128 .f32) (W : Vec Ideal S128x384 .bf16) (b : Vec Ideal S1x384 .f32) (r : Fin 4800) (c : Fin 384) :
    k0_pay4 x W b (ix2 r c) = ∑ k, x (ix2 r k) * W (ix2 k c) + b (ix2 0 c) := by
  unfold k0_pay4 k0_pay1
  pointwise

/-- The paired lane, as the kernel computes it from the index table. -/
theorem sel_eq : ∀ c : Fin 128, (Scalar.select (IntOp.cmpi CmpIPredicate.slt (lit3 c) 0#32) (IntOp.addi (lit3 c) 128#32) (lit3 c)).toNat % 128
    = (pair c).val := by decide +kernel

theorem pay7_at (x : Vec Ideal S4800x128 .f32) (W : Vec Ideal S128x384 .bf16) (b : Vec Ideal S1x384 .f32) (cs sn : Vec Ideal S32x128 .bf16)
    (gi : Vec Ideal S1x128 .i32) (hg : ∀ c : Fin 128, gi (ix2 0 c) = lit3 c) (t : Fin 150) (i : Fin 32) (c : Fin 128) :
    k0_pay7 x cs sn gi W b (ix2 (rowOf t i) c) =
      rot (pj x W b 0 (by decide) (rowOf t i)) (fun c => cs (ix2 i c)) (fun c => sn (ix2 i c)) c := by
  have hi : (32 * t.val + i.val) % 32 = i.val := by omega
  unfold k0_pay7 k0_pay2 k0_pay3
  pointwise
  simp only [hg, sel_eq, rowOf, hi, pay4_at, rot, pj, proj, sub, Nat.zero_add]

theorem keys_at (x : Vec Ideal S4800x128 .f32) (W : Vec Ideal S128x384 .bf16) (b : Vec Ideal S1x384 .f32) (cs sn : Vec Ideal S32x128 .bf16)
    (f : Vec Ideal S8x128 .bf16) (gi : Vec Ideal S1x128 .i32) (hg : ∀ c : Fin 128, gi (ix2 0 c) = lit3 c) (t : Fin 150) (s : Fin 256) (c : Fin 128) :
    keys x W b cs sn f gi (ix2 (stk t s) c) =
      rot (pj x W b 128 (by decide) (rowOf t (kj s))) (fun c => cs (ix2 (kj s) c)) (fun c => sn (ix2 (kj s) c)) c * f (ix2 (kh s) c) := by
  have h1 : (256 * t.val + s.val) / 256 * 32 + s.val % 32 = 32 * t.val + s.val % 32 := by omega
  have h2 : (256 * t.val + s.val) % 32 = s.val % 32 := by omega
  have h3 : (256 * t.val + s.val) / 32 % 8 = s.val / 32 := by omega
  unfold keys k0_pay8 k0_pay2 k0_pay3 k0_pay5
  pointwise
  simp only [hg, sel_eq, rowOf, stk, kj, kh, h1, h2, h3, pay4_at, rot, pj, proj, sub]

theorem vals_at (x : Vec Ideal S4800x128 .f32) (W : Vec Ideal S128x384 .bf16) (b : Vec Ideal S1x384 .f32) (f : Vec Ideal S8x128 .bf16)
    (t : Fin 150) (s : Fin 256) (c : Fin 128) :
    k0_pay9 f (k0_pay6 x W b) (ix2 (stk t s) c) = pj x W b 256 (by decide) (rowOf t (kj s)) c * f (ix2 (kh s) c) := by
  have h1 : (256 * t.val + s.val) / 256 * 32 + (256 * t.val + s.val) % 32 = 32 * t.val + s.val % 32 := by omega
  have h3 : (256 * t.val + s.val) / 32 % 8 = s.val / 32 := by omega
  unfold k0_pay9 k0_pay6
  pointwise
  simp only [rowOf, stk, kj, kh, h1, h3, pay4_at, pj, proj, sub]

theorem wts_at (q : FVec Ideal S4800x128 .bf16) (k : FVec Ideal S38400x128 .bf16) (mk : FVec Ideal S32x256 .bf16) (t : Fin 150)
    (i : Fin 32) (s : Fin 256) :
    wts q k mk t (ix2 i s) = Ideal.exp (∑ c, q (ix2 (rowOf t i) c) * k (ix2 (stk t s) c)) * mk (ix2 i s) := by
  unfold wts
  pointwise
  rfl

theorem num_at (v : FVec Ideal S38400x128 .bf16) (e : FVec Ideal S32x256 .bf16) (t : Fin 150) (i : Fin 32) (c : Fin 128) :
    num v e t (ix2 i c) = ∑ s, e (ix2 i s) * v (ix2 (stk t s) c) := by
  unfold num
  pointwise
  rfl

theorem cat_o_at (f : Fin 150 → FVec Ideal S32x128 .f32) (t : Fin 150) (i : Fin 32) (c : Fin 128) :
    concatenate S4800x128 0 (List.ofFn fun t => ⟨S32x128, f t⟩) (cat_o f) (ix2 (rowOf t i) c) = f t (ix2 i c) := by
  refine concatenate_ofFn_apply 0 f (cat_o f) rfl 32 rfl _ t ?_ _ ?_ ?_
  · show (32 * t.val + i.val) / 32 = t.val; omega
  · show i.val = (32 * t.val + i.val) % 32; omega
  · intro b hb
    match b with
    | 0 => exact absurd rfl hb
    | 1 => rfl

theorem cat_e_at (f : Fin 150 → FVec Ideal S32x256 .bf16) (t : Fin 150) (i : Fin 32) (c : Fin 256) :
    concatenate S4800x256 0 (List.ofFn fun t => ⟨S32x256, f t⟩) (cat_e f) (ix2 (rowOf t i) c) = f t (ix2 i c) := by
  refine concatenate_ofFn_apply 0 f (cat_e f) rfl 32 rfl _ t ?_ _ ?_ ?_
  · show (32 * t.val + i.val) / 32 = t.val; omega
  · show i.val = (32 * t.val + i.val) % 32; omega
  · intro b hb
    match b with
    | 0 => exact absurd rfl hb
    | 1 => rfl

theorem att_at (x : FVec Ideal S4800x128 .f32) (q : FVec Ideal S4800x128 .bf16) (k v : FVec Ideal S38400x128 .bf16)
    (mk : FVec Ideal S32x256 .bf16) (msk : FVec Ideal S256x128 .bf16) (t : Fin 150) (i : Fin 32) (c : Fin 128) :
    att x q k v mk msk (ix2 (rowOf t i) c) =
      Ideal.div (∑ s, wts q k mk t (ix2 i s) * v (ix2 (stk t s) c)) (∑ s, wts q k mk t (ix2 i s) * msk (ix2 s c)) + x (ix2 (rowOf t i) c) := by
  have h : ∀ e : FVec Ideal S4800x256 .bf16, matmul dot_S4800x256_S256x128_S4800x128_1_0_0_1_n_n none e msk
      (constant S4800x128 .f32 0x00000000#32) (ix2 (rowOf t i) c) = ∑ s, e (ix2 (rowOf t i) s) * msk (ix2 s c) := by
    intro e
    pointwise
  show Ideal.div _ _ + _ = _
  rw [cat_o_at, h, num_at]
  simp only [cat_e_at]

theorem ofBits_128' : Ideal.ofBits FTy.f32 0x43000000#32 = 128 := ofBits_128

theorem pay329_at (y : FVec Ideal S4800x128 .f32) (g be : FVec Ideal S1x128 .f32) (r : Fin 4800) (c : Fin 128) :
    k0_pay329 y g be (ix2 r c) = lnK eps (fun c => y (ix2 r c)) (fun c => g (ix2 0 c)) (fun c => be (ix2 0 c)) c := by
  unfold k0_pay329
  pointwise
  simp only [ofBits_128', lnK, vareps, mean, eps]

theorem pay327_at (y : FVec Ideal S4800x128 .f32) (g1 be1 : FVec Ideal S1x128 .f32) (W1 : Vec Ideal S128x512 .bf16) (b1 : Vec Ideal S1x512 .f32)
    (W2 : Vec Ideal S512x128 .bf16) (b2 : Vec Ideal S1x128 .f32) (r : Fin 4800) (c : Fin 128) :
    k0_pay327 y g1 be1 (shapeCast S4800x1 (multiReduction .add [1] S4800 y 0x00000000#32 reduces_S4800x128_S4800 (.inl rfl) rfl)
      shapeCasts_S4800_S4800x1) W1 b1 W2 b2 (ix2 r c) =
      ffn (lnK eps (fun c => y (ix2 r c)) (fun c => g1 (ix2 0 c)) (fun c => be1 (ix2 0 c))) (fun k c => W1 (ix2 k c)) (fun c => b1 (ix2 0 c))
        (fun k c => W2 (ix2 k c)) (fun c => b2 (ix2 0 c)) c
      + lnK eps (fun c => y (ix2 r c)) (fun c => g1 (ix2 0 c)) (fun c => be1 (ix2 0 c)) c := by
  unfold k0_pay327
  pointwise
  simp only [ofBits_128', ffn, proj, lnK, vareps, mean, eps]

theorem rest_at (y : FVec Ideal S4800x128 .f32) (g1 be1 : Vec Ideal S1x128 .f32) (W1 : Vec Ideal S128x512 .bf16) (b1 : Vec Ideal S1x512 .f32)
    (W2 : Vec Ideal S512x128 .bf16) (b2 g2 be2 : Vec Ideal S1x128 .f32) (a x : Fin 128 → EReal) (r : Fin 4800)
    (hy : ∀ c, y (ix2 r c) = a c + x c) (c : Fin 128) :
    rest y g1 be1 W1 b1 W2 b2 g2 be2 (ix2 r c) =
      tail (lnK eps) a x (fun c => g1 (ix2 0 c)) (fun c => be1 (ix2 0 c)) (fun k c => W1 (ix2 k c)) (fun c => b1 (ix2 0 c))
        (fun k c => W2 (ix2 k c)) (fun c => b2 (ix2 0 c)) (fun c => g2 (ix2 0 c)) (fun c => be2 (ix2 0 c)) c := by
  have e1 : ∀ g : Vec Ideal S1x128 .f32, k0_pay324 g = g := fun g => shapeCast_self _ _
  have e2 : ∀ g : Vec Ideal S1x128 .f32, k0_pay325 g = g := fun g => shapeCast_self _ _
  have e3 : ∀ g : Vec Ideal S1x128 .f32, k0_pay328 g = g := fun g => shapeCast_self _ _
  unfold rest tail
  rw [e1, e2, e3, pay329_at]
  congr 1
  funext c
  refine (pay327_at y g1 be1 W1 b1 W2 b2 r c).trans ?_
  simp only [hy]

/-- One row of the body's result, from the blocks of the body's windows. -/
theorem out_at (x0 : Vec Ideal S4800x128 .f32) (x1 : Vec Ideal S128x384 .bf16) (x2 : Vec Ideal S1x384 .f32) (x3 x4 : Vec Ideal S1x128 .f32)
    (x5 : Vec Ideal S128x512 .bf16) (x6 : Vec Ideal S1x512 .f32) (x7 : Vec Ideal S512x128 .bf16) (x8 x9 x10 : Vec Ideal S1x128 .f32)
    (x11 x12 : Vec Ideal S32x128 .bf16) (x13 : Vec Ideal S32x256 .bf16) (x14 : Vec Ideal S8x128 .bf16) (x15 : Vec Ideal S256x128 .bf16)
    (x16 : Vec Ideal S1x128 .i32) (hf : ∀ (h : Fin 8) (c : Fin 128), x14 (ix2 h c) = fm h c)
    (hs : ∀ (s : Fin 256) (c : Fin 128), x15 (ix2 s c) = ms s c) (hg : ∀ c : Fin 128, x16 (ix2 0 c) = lit3 c)
    (t : Fin 150) (i : Fin 32) (c : Fin 128) :
    out0_17 x0 x1 x2 x3 x4 x5 x6 x7 x8 x9 x10 x11 x12 x13 x14 x15 x16 (ix2 (rowOf t i) c) =
      tail (lnK eps)
        (attnK (rot (pj x0 x1 x2 0 (by decide) (rowOf t i)) (fun c => x11 (ix2 i c)) (fun c => x12 (ix2 i c)))
          (fun j => rot (pj x0 x1 x2 128 (by decide) (rowOf t j)) (fun c => x11 (ix2 j c)) (fun c => x12 (ix2 j c)))
          (fun j => pj x0 x1 x2 256 (by decide) (rowOf t j)) (fun s => x13 (ix2 i s)))
        (fun c => x0 (ix2 (rowOf t i) c)) (fun c => x3 (ix2 0 c)) (fun c => x4 (ix2 0 c)) (fun k c => x5 (ix2 k c)) (fun c => x6 (ix2 0 c))
        (fun k c => x7 (ix2 k c)) (fun c => x8 (ix2 0 c)) (fun c => x9 (ix2 0 c)) (fun c => x10 (ix2 0 c)) c := by
  have z : (![0, 0] : Fin 2 → ℕ) = fun _ => 0 := by decide
  rw [out_eq]
  refine (congrFun (View.canon_unit_zero (S := S4800x128) z _ _) _).trans ?_
  simp only [r0_0, r0_1, r0_2, r0_3, r0_4, r0_5, r0_6, r0_7, r0_8, r0_9, r0_10, View.ld_unit_zero (S := S4800x128) z,
    View.ld_unit_zero (S := S128x384) z, View.ld_unit_zero (S := S1x384) z, View.ld_unit_zero (S := S1x128) z,
    View.ld_unit_zero (S := S128x512) z, View.ld_unit_zero (S := S1x512) z, View.ld_unit_zero (S := S512x128) z,
    View.ld_unit_zero (S := S32x128) z, View.ld_unit_zero (S := S32x256) z, View.ld_unit_zero (S := S8x128) z,
    View.ld_unit_zero (S := S256x128) z]
  refine rest_at _ _ _ _ _ _ _ _ _ _ _ _ (fun c => ?_) c
  rw [att_at]
  have e1 : k0_pay1 x0 = x0 := shapeCast_self _ _
  have e2 : k0_pay10 x13 = x13 := shapeCast_self _ _
  simp only [wts_at, pay7_at x0 x1 x2 x11 x12 x16 hg, keys_at x0 x1 x2 x11 x12 x14 x16 hg, vals_at, hf, hs, e1, e2, attnK, scoreK]

end Cert.KernelIdeal.Blk

end
-- ==== Proof.HostV.lean ====
/- What the kernel's windows find in memory: the host operations before the kernel, at an index. -/
module

public import proofs.«01_k».proof.Proof.BlkAt

@[expose] public section

noncomputable section

namespace Cert.KernelIdeal.HostV

open Idealize.ShloMosaic Cert.KernelIdeal Cert.KernelIdeal.Gen Cert.KernelIdeal.Blk Cert.Attn

variable (m : (ℓ : Loc nD τ sig) → Buf (Elt Ideal) ℓ)

/-- The arguments' elements in memory. -/
def args (c : Dev nD) : Args where
  x i n k := m (c, Proc.devRef .tc main_arg0) (ix3 i n k)
  Wq k j := m (c, Proc.devRef .tc main_arg1) (ix2 k j)
  bq j := m (c, Proc.devRef .tc main_arg2) (ix1 j)
  Wk k j := m (c, Proc.devRef .tc main_arg3) (ix2 k j)
  bk j := m (c, Proc.devRef .tc main_arg4) (ix1 j)
  Wv k j := m (c, Proc.devRef .tc main_arg5) (ix2 k j)
  bv j := m (c, Proc.devRef .tc main_arg6) (ix1 j)
  g1 j := m (c, Proc.devRef .tc main_arg7) (ix1 j)
  be1 j := m (c, Proc.devRef .tc main_arg8) (ix1 j)
  W1 k j := m (c, Proc.devRef .tc main_arg9) (ix2 k j)
  b1 j := m (c, Proc.devRef .tc main_arg10) (ix1 j)
  W2 k j := m (c, Proc.devRef .tc main_arg11) (ix2 k j)
  b2 j := m (c, Proc.devRef .tc main_arg12) (ix1 j)
  g2 j := m (c, Proc.devRef .tc main_arg13) (ix1 j)
  be2 j := m (c, Proc.devRef .tc main_arg14) (ix1 j)

variable (c : Dev nD)

theorem v1_at (r : Fin 24000) (k : Fin 128) :
    V m c main_call0_v1 (ix2 r k) = (args m c).x ⟨r.val % 32, by omega⟩ ⟨r.val / 32, by omega⟩ k := by
  unfold V V0
  after_reads_at
  rfl

theorem v3_at (k : Fin 128) (j : Fin 384) : V m c main_call0_v3 (ix2 k j) =
    if h : j.val < 128 then (args m c).Wq k ⟨j.val, h⟩ else if h' : j.val - 128 < 128 then (args m c).Wk k ⟨j.val - 128, h'⟩
      else (args m c).Wv k ⟨j.val - 128 - 128, by omega⟩ := by
  unfold V V0
  after_reads_at
  after_reads_at
  rfl

theorem v5_at (j : Fin 384) : V m c main_call0_v5 (ix2 (0 : Fin 1) j) =
    if h : j.val < 128 then (args m c).bq ⟨j.val, h⟩ else if h' : j.val - 128 < 128 then (args m c).bk ⟨j.val - 128, h'⟩
      else (args m c).bv ⟨j.val - 128 - 128, by omega⟩ := by
  unfold V V0
  after_reads_at
  after_reads_at
  rfl

theorem v58_at (j : Fin 128) : V m c main_call0_v58 (ix2 (0 : Fin 1) j) = (args m c).g1 j := by
  unfold V V0
  after_reads_at
  rfl
theorem v59_at (j : Fin 128) : V m c main_call0_v59 (ix2 (0 : Fin 1) j) = (args m c).be1 j := by
  unfold V V0
  after_reads_at
  rfl
theorem v60_at (k : Fin 128) (j : Fin 512) : V m c main_call0_v60 (ix2 k j) = (args m c).W1 k j := by
  unfold V V0
  after_reads_at
  rfl
theorem v61_at (j : Fin 512) : V m c main_call0_v61 (ix2 (0 : Fin 1) j) = (args m c).b1 j := by
  unfold V V0
  after_reads_at
  rfl
theorem v62_at (k : Fin 512) (j : Fin 128) : V m c main_call0_v62 (ix2 k j) = (args m c).W2 k j := by
  unfold V V0
  after_reads_at
  rfl
theorem v63_at (j : Fin 128) : V m c main_call0_v63 (ix2 (0 : Fin 1) j) = (args m c).b2 j := by
  unfold V V0
  after_reads_at
  rfl
theorem v64_at (j : Fin 128) : V m c main_call0_v64 (ix2 (0 : Fin 1) j) = (args m c).g2 j := by
  unfold V V0
  after_reads_at
  rfl
theorem v65_at (j : Fin 128) : V m c main_call0_v65 (ix2 (0 : Fin 1) j) = (args m c).be2 j := by
  unfold V V0
  after_reads_at
  rfl

theorem v66_at (i : Fin 32) (j : Fin 128) : V m c main_call0_v66 (ix2 i j) = csRow i j := by
  have h0 : constant (F := Ideal) S_ FTy.f32 0x00000000#32 ix0 = (0 : EReal) := Ideal.ofBits_zero_f32
  have h1 : constant (F := Ideal) S_ FTy.f32 0x3F800000#32 ix0 = (1 : EReal) := Ideal.ofBits_one_f32
  unfold V V0
  after_reads_at
  after_reads_at
  simp only [id, h0, h1, csRow, csT, ang, lin, fl]
  rfl

theorem v67_at (i : Fin 32) (j : Fin 128) : V m c main_call0_v67 (ix2 i j) = snRow i j := by
  have h0 : constant (F := Ideal) S_ FTy.f32 0x00000000#32 ix0 = (0 : EReal) := Ideal.ofBits_zero_f32
  have h1 : constant (F := Ideal) S_ FTy.f32 0x3F800000#32 ix0 = (1 : EReal) := Ideal.ofBits_one_f32
  have hs : Ideal.ofBits FTy.f32 (lit0 (S128.rowMajor (ix1 j))) = sgn j := by
    have hi : (S128.rowMajor (ix1 j) : Fin 128) = j := Fin.ext (Shape.rowMajor_val_one _)
    refine (congrArg (fun i => Ideal.ofBits FTy.f32 (lit0 i)) hi).trans ?_
    show Ideal.ofBits FTy.f32 (lit0 j) = _
    rw [Lits.lit0_eq]
    unfold sgn
    split
    · exact ofBits_neg_one
    · exact Ideal.ofBits_one_f32
  unfold V V0
  after_reads_at
  after_reads_at
  simp only [id, h0, h1]
  rw [hs]
  simp only [snRow, snT, ang, lin, fl]
  rfl

theorem v68_at (i : Fin 32) (s : Fin 256) : V m c main_call0_v68 (ix2 i s) = Ideal.exp (dmT (kh s).val i.val (kj s).val) := by
  unfold V V0
  after_reads_at
  rw [mul_comm]
  rfl

theorem fm_at (h : Fin 8) (j : Fin 128) : V m c main_call0_cst_0 (ix2 h j) = fm h j := by
  unfold V V0
  after_reads_at
  have hb : h.val * 128 + j.val < 1024 := by omega
  have hi : (S8x128.rowMajor (ix2 h j) : Fin 1024) = ⟨h.val * 128 + j.val, hb⟩ :=
    Fin.ext (Shape.rowMajor_val_two _)
  refine (congrArg (fun i => Ideal.ofBits FTy.bf16 (lit1 i)) hi).trans ?_
  show Ideal.ofBits FTy.bf16 (lit1 (⟨h.val * 128 + j.val, hb⟩ : Fin 1024)) = _
  rw [Lits.lit1_eq]
  show Ideal.ofBits FTy.bf16 (if (h.val * 128 + j.val) % 128 / 16 = (h.val * 128 + j.val) / 128 then _ else _) = _
  unfold fm
  rw [show (h.val * 128 + j.val) % 128 / 16 = j.val / 16 by omega, show (h.val * 128 + j.val) / 128 = h.val by omega]
  split
  · exact Ideal.ofBits_one_bf16
  · exact Ideal.ofBits_zero_bf16

theorem gi_at (j : Fin 128) : V m c main_call0_c (ix2 (0 : Fin 1) j) = lit3 j := by
  unfold V V0
  after_reads_at
  refine congrArg lit3 (Fin.ext ?_)
  rw [Shape.rowMajor_val_two]
  show 0 * 128 + j.val = j.val
  omega

end Cert.KernelIdeal.HostV

end
-- ==== Proof.Lits4.lean ====
/- The literal table that sums the lanes of a head, the first half of its rows. -/
module

public import proofs.«01_k».proof.Proof.Gen.KernelIdeal.Frame

@[expose] public section

noncomputable section

namespace Cert.KernelIdeal.Lits

open Idealize.ShloMosaic Cert.KernelIdeal

set_option maxRecDepth 100000

theorem rows_0 : ∀ (r : Fin 32) (c : Fin 128), lit2t (128 * (0 + r.val) + c.val) = if c.val / 16 = 0 then 0x3F80#16 else 0x0000#16 := by
  decide +kernel

theorem rows_1 : ∀ (r : Fin 32) (c : Fin 128), lit2t (128 * (32 + r.val) + c.val) = if c.val / 16 = 1 then 0x3F80#16 else 0x0000#16 := by
  decide +kernel

theorem rows_2 : ∀ (r : Fin 32) (c : Fin 128), lit2t (128 * (64 + r.val) + c.val) = if c.val / 16 = 2 then 0x3F80#16 else 0x0000#16 := by
  decide +kernel

theorem rows_3 : ∀ (r : Fin 32) (c : Fin 128), lit2t (128 * (96 + r.val) + c.val) = if c.val / 16 = 3 then 0x3F80#16 else 0x0000#16 := by
  decide +kernel

end Cert.KernelIdeal.Lits

end
-- ==== Proof.Lits5.lean ====
/- The literal table that sums the lanes of a head, the second half of its rows. -/
module

public import proofs.«01_k».proof.Proof.Gen.KernelIdeal.Frame

@[expose] public section

noncomputable section

namespace Cert.KernelIdeal.Lits

open Idealize.ShloMosaic Cert.KernelIdeal

set_option maxRecDepth 100000

theorem rows_4 : ∀ (r : Fin 32) (c : Fin 128), lit2t (128 * (128 + r.val) + c.val) = if c.val / 16 = 4 then 0x3F80#16 else 0x0000#16 := by
  decide +kernel

theorem rows_5 : ∀ (r : Fin 32) (c : Fin 128), lit2t (128 * (160 + r.val) + c.val) = if c.val / 16 = 5 then 0x3F80#16 else 0x0000#16 := by
  decide +kernel

theorem rows_6 : ∀ (r : Fin 32) (c : Fin 128), lit2t (128 * (192 + r.val) + c.val) = if c.val / 16 = 6 then 0x3F80#16 else 0x0000#16 := by
  decide +kernel

theorem rows_7 : ∀ (r : Fin 32) (c : Fin 128), lit2t (128 * (224 + r.val) + c.val) = if c.val / 16 = 7 then 0x3F80#16 else 0x0000#16 := by
  decide +kernel

end Cert.KernelIdeal.Lits

end
-- ==== Proof.MsAt.lean ====
/- The table that sums the lanes of a head, read where the kernel's window finds it. -/
module

public import proofs.«01_k».proof.Proof.Blk
public import proofs.«01_k».proof.Proof.Spec
public import proofs.«01_k».proof.Proof.Lits4
public import proofs.«01_k».proof.Proof.Lits5
public import Idealize.ShloMosaic.Lib.StableHlo.ReadAt
public import Idealize.ShloMosaic.Lib.IdealHost

@[expose] public section

noncomputable section

namespace Cert.KernelIdeal.HostV

open Idealize.ShloMosaic Cert.KernelIdeal Cert.KernelIdeal.Gen Cert.Attn

theorem lit2_at (s : Fin 256) (j : Fin 128) : lit2t (128 * s.val + j.val) = if j.val / 16 = s.val / 32 then 0x3F80#16 else 0x0000#16 := by
  have key : ∀ (k : ℕ), s.val / 32 = k → (∀ (r : Fin 32) (c : Fin 128), lit2t (128 * (32 * k + r.val) + c.val) =
      if c.val / 16 = k then 0x3F80#16 else 0x0000#16) → lit2t (128 * s.val + j.val) = if j.val / 16 = s.val / 32 then 0x3F80#16 else 0x0000#16 := by
    intro k hk h
    have := h ⟨s.val % 32, by omega⟩ j
    rw [hk, ← this]
    refine congrArg lit2t ?_
    show 128 * s.val + j.val = 128 * (32 * k + s.val % 32) + j.val
    omega
  have hs : s.val / 32 < 8 := by omega
  obtain h | h | h | h | h | h | h | h : s.val / 32 = 0 ∨ s.val / 32 = 1 ∨ s.val / 32 = 2 ∨ s.val / 32 = 3 ∨ s.val / 32 = 4 ∨
      s.val / 32 = 5 ∨ s.val / 32 = 6 ∨ s.val / 32 = 7 := by omega
  · exact key 0 h Lits.rows_0
  · exact key 1 h Lits.rows_1
  · exact key 2 h Lits.rows_2
  · exact key 3 h Lits.rows_3
  · exact key 4 h Lits.rows_4
  · exact key 5 h Lits.rows_5
  · exact key 6 h Lits.rows_6
  · exact key 7 h Lits.rows_7

theorem ms_at (m : (ℓ : Loc nD τ sig) → Buf (Elt Ideal) ℓ) (c : Dev nD) (s : Fin 256) (j : Fin 128) :
    V m c main_call0_cst_1 (ix2 s j) = ms s j := by
  unfold V V0
  after_reads_at
  have hb : s.val * 128 + j.val < 32768 := by omega
  have hi : (S256x128.rowMajor (ix2 s j) : Fin 32768) = ⟨s.val * 128 + j.val, hb⟩ := Fin.ext (Shape.rowMajor_val_two _)
  refine (congrArg (fun i => Ideal.ofBits FTy.bf16 (lit2 i)) hi).trans ?_
  show Ideal.ofBits FTy.bf16 (lit2t (s.val * 128 + j.val)) = _
  rw [mul_comm s.val, lit2_at]
  unfold ms
  split
  · exact Ideal.ofBits_one_bf16
  · exact Ideal.ofBits_zero_bf16

end Cert.KernelIdeal.HostV

end
-- ==== Proof.Blks.lean ====
/- The kernel's windows at a grid point, at an index. -/
module

public import proofs.«01_k».proof.Proof.HostV
public import proofs.«01_k».proof.Proof.MsAt
public import Idealize.ShloMosaic.Lib.Pipeline.ValueKit

@[expose] public section

set_option maxRecDepth 16384

noncomputable section

namespace Cert.KernelIdeal.Arr

open Idealize.ShloMosaic Cert.KernelIdeal Cert.KernelIdeal.Gen Cert.KernelIdeal.Blk Cert.KernelIdeal.HostV Cert.Attn

variable (m : (ℓ : Loc nD τ sig) → Buf (Elt Ideal) ℓ) (c : Dev nD)

/-- The token of row `i` of block `t`. -/
def tok (t : Fin cfg0.N) (s : Fin 150) : Fin 750 := ⟨150 * t.val + s.val, by have : t.val < 5 := t.isLt; omega⟩

theorem idx : ∀ t : Fin cfg0.N, win0_0.index t = ![t.val, 0] ∧ win0_17.index t = ![t.val, 0] ∧
    win0_1.index t = ![0, 0] ∧ win0_2.index t = ![0, 0] ∧ win0_3.index t = ![0, 0] ∧ win0_4.index t = ![0, 0] ∧
    win0_5.index t = ![0, 0] ∧ win0_6.index t = ![0, 0] ∧ win0_7.index t = ![0, 0] ∧ win0_8.index t = ![0, 0] ∧
    win0_9.index t = ![0, 0] ∧ win0_10.index t = ![0, 0] ∧ win0_11.index t = ![0, 0] ∧ win0_12.index t = ![0, 0] ∧
    win0_13.index t = ![0, 0] ∧ win0_14.index t = ![0, 0] ∧ win0_15.index t = ![0, 0] ∧ win0_16.index t = ![0, 0] := by
  decide +kernel

theorem b0 (t : Fin cfg0.N) (s : Fin 150) (i : Fin 32) (k : Fin 128) : iblk m c 0 t (ix2 (rowOf s i) k) = (args m c).x i (tok t s) k := by
  have ht : t.val < 5 := t.isLt
  have hr : 4800 * t.val + (32 * s.val + i.val) < 24000 := by omega
  have e : iblk m c 0 t (ix2 (rowOf s i) k) = V m c main_call0_v1 (ix2 (⟨4800 * t.val + (32 * s.val + i.val), hr⟩ : Fin 24000) k) := by
    unfold rowOf
    blk_ext [iblk, (idx t).1]
  rw [e, v1_at]
  congr 1
  · exact Fin.ext (by show (4800 * t.val + (32 * s.val + i.val)) % 32 = i.val; omega)
  · exact Fin.ext (by show (4800 * t.val + (32 * s.val + i.val)) / 32 = 150 * t.val + s.val; omega)

theorem b1 (t : Fin cfg0.N) (k : Fin 128) (j : Fin 384) : iblk m c 1 t (ix2 k j) =
    if h : j.val < 128 then (args m c).Wq k ⟨j.val, h⟩ else if h' : j.val - 128 < 128 then (args m c).Wk k ⟨j.val - 128, h'⟩
      else (args m c).Wv k ⟨j.val - 128 - 128, by omega⟩ := by
  refine Eq.trans ?_ (v3_at m c k j)
  blk_ext [iblk, idx t]
theorem b2 (t : Fin cfg0.N) (j : Fin 384) : iblk m c 2 t (ix2 (0 : Fin 1) j) =
    if h : j.val < 128 then (args m c).bq ⟨j.val, h⟩ else if h' : j.val - 128 < 128 then (args m c).bk ⟨j.val - 128, h'⟩
      else (args m c).bv ⟨j.val - 128 - 128, by omega⟩ := by
  refine Eq.trans ?_ (v5_at m c j)
  blk_ext [iblk, idx t]
theorem b3 (t : Fin cfg0.N) (j : Fin 128) : iblk m c 3 t (ix2 (0 : Fin 1) j) = (args m c).g1 j := by
  refine Eq.trans ?_ (v58_at m c j)
  blk_ext [iblk, idx t]
theorem b4 (t : Fin cfg0.N) (j : Fin 128) : iblk m c 4 t (ix2 (0 : Fin 1) j) = (args m c).be1 j := by
  refine Eq.trans ?_ (v59_at m c j)
  blk_ext [iblk, idx t]
theorem b5 (t : Fin cfg0.N) (k : Fin 128) (j : Fin 512) : iblk m c 5 t (ix2 k j) = (args m c).W1 k j := by
  refine Eq.trans ?_ (v60_at m c k j)
  blk_ext [iblk, idx t]
theorem b6 (t : Fin cfg0.N) (j : Fin 512) : iblk m c 6 t (ix2 (0 : Fin 1) j) = (args m c).b1 j := by
  refine Eq.trans ?_ (v61_at m c j)
  blk_ext [iblk, idx t]
theorem b7 (t : Fin cfg0.N) (k : Fin 512) (j : Fin 128) : iblk m c 7 t (ix2 k j) = (args m c).W2 k j := by
  refine Eq.trans ?_ (v62_at m c k j)
  blk_ext [iblk, idx t]
theorem b8 (t : Fin cfg0.N) (j : Fin 128) : iblk m c 8 t (ix2 (0 : Fin 1) j) = (args m c).b2 j := by
  refine Eq.trans ?_ (v63_at m c j)
  blk_ext [iblk, idx t]
theorem b9 (t : Fin cfg0.N) (j : Fin 128) : iblk m c 9 t (ix2 (0 : Fin 1) j) = (args m c).g2 j := by
  refine Eq.trans ?_ (v64_at m c j)
  blk_ext [iblk, idx t]
theorem b10 (t : Fin cfg0.N) (j : Fin 128) : iblk m c 10 t (ix2 (0 : Fin 1) j) = (args m c).be2 j := by
  refine Eq.trans ?_ (v65_at m c j)
  blk_ext [iblk, idx t]
theorem b11 (t : Fin cfg0.N) (k : Fin 32) (j : Fin 128) : iblk m c 11 t (ix2 k j) = csRow k j := by
  refine Eq.trans ?_ (v66_at m c k j)
  blk_ext [iblk, idx t]
theorem b12 (t : Fin cfg0.N) (k : Fin 32) (j : Fin 128) : iblk m c 12 t (ix2 k j) = snRow k j := by
  refine Eq.trans ?_ (v67_at m c k j)
  blk_ext [iblk, idx t]
theorem b13 (t : Fin cfg0.N) (k : Fin 32) (j : Fin 256) : iblk m c 13 t (ix2 k j) = Ideal.exp (dmT (kh j).val k.val (kj j).val) := by
  refine Eq.trans ?_ (v68_at m c k j)
  blk_ext [iblk, idx t]
theorem b14 (t : Fin cfg0.N) (k : Fin 8) (j : Fin 128) : iblk m c 14 t (ix2 k j) = fm k j := by
  refine Eq.trans ?_ (fm_at m c k j)
  blk_ext [iblk, idx t]
theorem b15 (t : Fin cfg0.N) (k : Fin 256) (j : Fin 128) : iblk m c 15 t (ix2 k j) = ms k j := by
  refine Eq.trans ?_ (ms_at m c k j)
  blk_ext [iblk, idx t]
theorem b16 (t : Fin cfg0.N) (j : Fin 128) : iblk m c 16 t (ix2 (0 : Fin 1) j) = lit3 j := by
  refine Eq.trans ?_ (gi_at m c j)
  blk_ext [iblk, idx t]

end Cert.KernelIdeal.Arr

end
-- ==== Proof.Arr.lean ====
/- The kernel's result array after the run: every block's rows, and the array as a whole. -/
module

public import proofs.«01_k».proof.Proof.Blks
public import Idealize.ShloMosaic.Lib.Pipeline.ValueKit

@[expose] public section

set_option maxRecDepth 16384

noncomputable section

namespace Cert.KernelIdeal.Arr

open Idealize.ShloMosaic Cert.KernelIdeal Cert.KernelIdeal.Gen Cert.KernelIdeal.Blk Cert.KernelIdeal.HostV Cert.Attn

variable (m : (ℓ : Loc nD τ sig) → Buf (Elt Ideal) ℓ) (c : Dev nD)

theorem pj_q (t : Fin cfg0.N) (s : Fin 150) (i : Fin 32) :
    pj (iblk m c 0 t) (iblk m c 1 t) (iblk m c 2 t) 0 (by decide) (rowOf s i) =
      proj ((args m c).x i (tok t s)) (args m c).Wq (args m c).bq := by
  unfold pj
  simp only [b0, b1, b2, sub, Nat.zero_add]
  simp only [Fin.is_lt, dif_pos]

theorem pj_k (t : Fin cfg0.N) (s : Fin 150) (i : Fin 32) :
    pj (iblk m c 0 t) (iblk m c 1 t) (iblk m c 2 t) 128 (by decide) (rowOf s i) =
      proj ((args m c).x i (tok t s)) (args m c).Wk (args m c).bk := by
  have h1 : ∀ j : Fin 128, ¬ 128 + j.val < 128 := fun j => by omega
  unfold pj
  simp only [b0, b1, b2, sub, h1, dif_neg, not_false_eq_true, Nat.add_sub_cancel_left]
  simp only [Fin.is_lt, dif_pos]

theorem pj_v (t : Fin cfg0.N) (s : Fin 150) (i : Fin 32) :
    pj (iblk m c 0 t) (iblk m c 1 t) (iblk m c 2 t) 256 (by decide) (rowOf s i) =
      proj ((args m c).x i (tok t s)) (args m c).Wv (args m c).bv := by
  have h1 : ∀ j : Fin 128, ¬ 256 + j.val < 128 := fun j => by omega
  have h2 : ∀ j : Fin 128, ¬ 256 + j.val - 128 < 128 := fun j => by omega
  have h3 : ∀ j : Fin 128, 256 + j.val - 128 - 128 = j.val := fun j => by omega
  unfold pj
  simp only [b0, b1, b2, sub, h1, h2, dif_neg, not_false_eq_true, h3]

theorem block_at (t : Fin cfg0.N) (s : Fin 150) (i : Fin 32) (j : Fin 128) :
    out0_17 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (ix2 (rowOf s i) j) = (args m c).kout (tok t s) i j := by
  refine (out_at _ _ _ _ _ _ _ _ _ _ _ _ _ _ _ _ _ (fun h k => b14 m c t h k)
    (fun r k => b15 m c t r k) (fun k => b16 m c t k) s i j).trans ?_
  simp only [pj_q, pj_k, pj_v, b0, b3, b4, b5, b6, b7, b8, b9, b10, b11, b12, b13]
  unfold Args.kout Args.fin Args.q Args.k Args.v
  simp only [rotR_eq]

/-- The kernel's result array. -/
def G : Vec Ideal S24000x128 .f32 := fun y =>
  (args m c).kout ⟨(y 0).val / 32, by have : (y 0).val < 24000 := (y 0).isLt; omega⟩ ⟨(y 0).val % 32, by omega⟩ (y 1)

theorem arr_eq : (dats m 0 c).arrAt 17 (cfgs 0).N = G m c := by
  refine (dats m 0 c).arrAt_eq_of_covers 17 _ (by decide +kernel) fun t hf y => ?_
  blk_simp
  rw [after0_17]
  have ht : t.val < 5 := t.isLt
  have h0 : (y 0).val < 4800 := (y 0).isLt
  have hy : y = ix2 (rowOf ⟨(y 0).val / 32, by omega⟩ ⟨(y 0).val % 32, by omega⟩) (y 1) := by
    funext a
    match a with
    | 0 => exact Fin.ext (by show (y 0).val = 32 * ((y 0).val / 32) + (y 0).val % 32; omega)
    | 1 => rfl
  have e0 : ((((cfg0.win 17).blk t).view.emb y) 0).val = 4800 * t.val + (y 0).val := by
    blk_simp [idx t]
    omega
  have e1 : ((((cfg0.win 17).blk t).view.emb y) 1).val = (y 1).val := by
    blk_simp [idx t]
  refine (congrArg _ hy).trans ((block_at m c t _ _ _).trans ?_)
  unfold G tok
  congr 1
  · refine Fin.ext ?_
    show 150 * t.val + (y 0).val / 32 = ((((cfg0.win 17).blk t).view.emb y) 0).val / 32
    omega
  · refine Fin.ext ?_
    show (y 0).val % 32 = ((((cfg0.win 17).blk t).view.emb y) 0).val % 32
    omega
  · exact Fin.ext e1.symm

end Cert.KernelIdeal.Arr

end
-- ==== Proof.KRun.lean ====
/- The kernel's run: what it leaves in its result array. -/
module

public import proofs.«01_k».proof.Proof.Arr

@[expose] public section

set_option maxRecDepth 16384

noncomputable section

namespace Cert.KernelIdeal.Arr

open Idealize.ShloMosaic Cert.KernelIdeal Cert.KernelIdeal.Gen Cert.KernelIdeal.HostV Cert.Attn

variable (m : (ℓ : Loc nD τ sig) → Buf (Elt Ideal) ℓ) (c : Dev nD)

/-- The kernel's result. -/
def R : Vec Ideal S32x750x128 .f32 := fun y => (args m c).kout (y 1) (y 0) (y 2)

theorem out_R (X : Vec Ideal S24000x128 .f32) (h : X = G m c) :
    transpose S32x750x128 [1, 0, 2] (shapeCast S750x32x128 X shapeCasts_S24000x128_S750x32x128) transposes_S750x32x128_S32x750x128_1_0_2 =
      R m c := by
  subst h
  refine funext fun y => ?_
  pointwise
  have h0 : (y 0).val < 32 := (y 0).isLt
  show (args m c).kout _ _ (y 2) = (args m c).kout (y 1) (y 0) (y 2)
  refine congrFun (congrArg₂ (args m c).kout (Fin.ext ?_) (Fin.ext ?_)) _
  · show ((y 1).val * 32 + (y 0).val) / 32 = (y 1).val
    omega
  · show ((y 1).val * 32 + (y 0).val) % 32 = (y 0).val
    omega

theorem run (ρ : Dev nD → PrngReg) : θ_run defs (onTc (τ := τ) (main (F := Ideal))) ⟨m, fun _ => 0, ρ⟩ (fun r => ∀ c : Dev nD,
    r.2.mem ((c.tc : Thread nD τ).loc main_v0) = R m c) := by
  run_from Gen.run_main m ρ
  refine out_R m c _ (Eq.trans ?_ (arr_eq m c))
  exact Pipeline.withArrays_arr (cfgs 0).spec (by decide) c (V0 m c) (fun w => (dats m 0 c).arrAt w (cfgs 0).N) 17

end Cert.KernelIdeal.Arr

end
-- ==== Proof.RefTab.lean ====
/- The reference's tables at an index. -/
module

public import proofs.«01_k».proof.Proof.Whole

@[expose] public section

noncomputable section

namespace Cert.ReferenceIdeal.At

open Idealize.ShloMosaic Cert.ReferenceIdeal Cert.ReferenceIdeal.Gen Cert.ReferenceIdeal.Read Cert.Attn

/-- The points from nought to one. -/
theorem v1_at (p : Fin 8) : val_main_v1 (F := Ideal) (ix1 p) = lin p.val := by
  have h0 : constant (F := Ideal) S_ FTy.f32 0x00000000#32 ix0 = (0 : EReal) := Ideal.ofBits_zero_f32
  have h1 : constant (F := Ideal) S_ FTy.f32 0x3F800000#32 ix0 = (1 : EReal) := Ideal.ofBits_one_f32
  unfold val_main_v1 val_main_call0_v16 val_main_call0_v15 val_main_call0_v14 val_main_call0_v13 val_main_call0_v12
    val_main_call0_v11 val_main_call0_v10 val_main_call0_v9 val_main_call0_v8 val_main_call0_v7 val_main_call0_v6 val_main_call0_v5
    val_main_call0_v4 val_main_call0_v1 val_main_call0_v0 val_main_cst val_main_cst_0 val_main_call0_cst_0
    val_main_call0_cst_1
  pointwise
  simp only [id, h0, h1, lin, fl]
  rfl

theorem ang_at (d : Fin 16) : val_main_v7 (F := Ideal) (ix1 d) = ang d.val := by
  unfold val_main_v7 val_main_v6 val_main_v5 val_main_v4 val_main_v3 val_main_v2 val_main_cst_2 val_main_cst_1
  pointwise
  rw [v1_at]
  rfl

theorem v26_at (i : Fin 32) (d : Fin 16) : val_main_v26 (F := Ideal) (ix2 i d) = snT i.val d.val := by
  unfold val_main_v26 val_main_v25 val_main_v24 val_main_v23 val_main_v22 val_main_v21 val_main_v20
  pointwise
  rw [ang_at]
  rfl

theorem v32_at (i : Fin 32) (d : Fin 16) : val_main_v32 (F := Ideal) (ix2 i d) = csT i.val d.val := by
  unfold val_main_v32 val_main_v31 val_main_v30 val_main_v29 val_main_v28 val_main_v27 val_main_v20
  pointwise
  rw [ang_at]
  rfl

theorem v43_at (h : Fin 8) (i j : Fin 32) : val_main_v43 (F := Ideal) (ix3 h i j) = dmT h.val i.val j.val := by
  unfold val_main_v43 val_main_v42 val_main_v41 val_main_v40 val_main_v39 val_main_v38 val_main_v37 val_main_v36 val_main_v35
    val_main_v34 val_main_v33 val_main_v20 val_main_v19 val_main_v18 val_main_v17 val_main_v16 val_main_v15 val_main_v14
    val_main_v13 val_main_v12 val_main_v11 val_main_v10 val_main_v9 val_main_v8 val_main_cst_3 val_main_cst_4 val_main_cst_5
    val_main_cst_6 val_main_cst_7
  pointwise
  rfl

end Cert.ReferenceIdeal.At

end
-- ==== Proof.RefQK.lean ====
/- The reference's projections, rotation and scores at an index. -/
module

public import proofs.«01_k».proof.Proof.RefTab

@[expose] public section

noncomputable section

namespace Cert.ReferenceIdeal.At

open Idealize.ShloMosaic Cert.ReferenceIdeal Cert.ReferenceIdeal.Gen Cert.ReferenceIdeal.Read Cert.Attn

theorem v49_at (x : Vec Ideal S32x750x128 .f32) (W : Vec Ideal S128x128 .f32) (b : Vec Ideal S128 .f32) (h : Fin 8) (n : Fin 750)
    (i : Fin 32) (d : Fin 16) : val_main_v49 (F := Ideal) x W b (ix4 h n i d) =
      proj (fun k => x (ix3 i n k)) (fun k c => W (ix2 k c)) (fun c => b (ix1 c)) (lane h d) := by
  have e : ∀ p, (⟨h.val * 16 + d.val, p⟩ : Fin 128) = lane h d := fun p => Fin.ext (by show h.val * 16 + d.val = 16 * h.val + d.val; omega)
  unfold val_main_v49 val_main_v48 val_main_v47 val_main_v46 val_main_v45 val_main_v44 val_main_v0
  pointwise
  rw [e, proj]

theorem v72_at (x : Vec Ideal S32x750x128 .f32) (W : Vec Ideal S128x128 .f32) (b : Vec Ideal S128 .f32) (h : Fin 8) (n : Fin 750)
    (i : Fin 32) (d : Fin 16) : val_main_v72 (F := Ideal) x W b (ix4 h n i d) =
      rotR (proj (fun k => x (ix3 i n k)) (fun k c => W (ix2 k c)) (fun c => b (ix1 c))) i (lane h d) := by
  have e1 : (lane h d).val % 16 = d.val := by show (16 * h.val + d.val) % 16 = d.val; omega
  have e2 : (lane h d).val / 16 = h.val := by show (16 * h.val + d.val) / 16 = h.val; omega
  unfold val_main_v72 val_main_v71 val_main_v70 val_main_v69 val_main_v68 val_main_v67 val_main_v66 val_main_v65 val_main_v64
    val_main_v63 val_main_v62
  pointwise
  rw [v26_at, v32_at, v49_at, rotR, e1]
  congr 2
  split
  · rename_i hd
    rw [v49_at, pair, dif_pos (by rw [e1]; exact hd)]
    refine congrArg _ (congrArg _ (Fin.ext ?_))
    show 16 * h.val + (1 + 2 * d.val) = 16 * ((lane h d).val / 16) + 2 * ((lane h d).val % 16) + 1
    omega
  · rename_i hd
    rw [v49_at, pair, dif_neg (by rw [e1]; exact hd)]
    refine congrArg _ (Fin.ext ?_)
    show 16 * h.val + 2 * (d.val - 8) = 16 * ((lane h d).val / 16) + 2 * ((lane h d).val % 16 - 8)
    omega

theorem v55_eq (x : Vec Ideal S32x750x128 .f32) (W : Vec Ideal S128x128 .f32) (b : Vec Ideal S128 .f32) :
    val_main_v55 (F := Ideal) x W b = val_main_v49 x W b := rfl
theorem v61_eq (x : Vec Ideal S32x750x128 .f32) (W : Vec Ideal S128x128 .f32) (b : Vec Ideal S128 .f32) :
    val_main_v61 (F := Ideal) x W b = val_main_v49 x W b := rfl
theorem v83_eq (x : Vec Ideal S32x750x128 .f32) (W : Vec Ideal S128x128 .f32) (b : Vec Ideal S128 .f32) :
    val_main_v83 (F := Ideal) x W b = val_main_v72 x W b := rfl

/-- The scores with the decay. -/
theorem v87_at (x : Vec Ideal S32x750x128 .f32) (W : Vec Ideal S128x128 .f32) (b : Vec Ideal S128 .f32) (W' : Vec Ideal S128x128 .f32)
    (b' : Vec Ideal S128 .f32) (h : Fin 8) (n : Fin 750) (i j : Fin 32) : val_main_v87 (F := Ideal) x W b W' b' (ix4 h n i j) =
      score (rotR (proj (fun k => x (ix3 i n k)) (fun k c => W (ix2 k c)) (fun c => b (ix1 c))) i)
        (fun j => rotR (proj (fun k => x (ix3 j n k)) (fun k c => W' (ix2 k c)) (fun c => b' (ix1 c))) j) h j +
        dmT h.val i.val j.val := by
  unfold val_main_v87 val_main_v86 val_main_v85 val_main_v84
  pointwise
  simp only [v83_eq, v72_at, v43_at, score]

end Cert.ReferenceIdeal.At

end
-- ==== Proof.RefSm.lean ====
/- The reference's softmax and attention at an index. -/
module

public import proofs.«01_k».proof.Proof.RefQK

@[expose] public section

noncomputable section

namespace Cert.ReferenceIdeal.At

open Idealize.ShloMosaic Cert.ReferenceIdeal Cert.ReferenceIdeal.Gen Cert.ReferenceIdeal.Read Cert.Attn

theorem isReal_fold {n : ℕ} (hn : 0 < n) (f : Fin n → EReal) (hf : ∀ j, IsReal (f j)) : IsReal ((Finset.univ : Finset (Fin n)).fold max ⊥ f) := by
  obtain ⟨j, -, hj⟩ := Finset.exists_mem_eq_sup (Finset.univ : Finset (Fin n)) ⟨⟨0, hn⟩, Finset.mem_univ _⟩ f
  have e : (Finset.univ : Finset (Fin n)).fold max ⊥ f = f j := hj
  rw [e]
  exact hf j

theorem isReal_reduce_max {s t u : Shape} {a : Fin s.rank} (x : s.Idx → EReal) (init : u.Idx → EReal) (h' : s.ReducesTo [a] t) (h : s.Reduces [a] t)
    (hu : 0 < u.numel) (j : t.Idx) (hi : init (Shape.Idx.first hu) = ⊥) (hx : ∀ i, IsReal (x i)) (hs : 0 < s.size a) :
    IsReal (Host.reduce (max : EReal → EReal → EReal) x init h' hu j) := by
  rw [Host.reduce_eq_fold_single max x init h' h hu j, hi]
  exact isReal_fold hs _ fun _ => hx _

theorem ofBits_bot : Ideal.ofBits FTy.f32 0xFF800000#32 = ⊥ := by
  simp [Ideal.ofBits, Ideal.ieee]

variable (x : Vec Ideal S32x750x128 .f32) (W : Vec Ideal S128x128 .f32) (b : Vec Ideal S128 .f32) (W' : Vec Ideal S128x128 .f32)
  (b' : Vec Ideal S128 .f32) (W'' : Vec Ideal S128x128 .f32) (b'' : Vec Ideal S128 .f32)

theorem v88_real (hx : ∀ i, IsReal (val_main_v87 (F := Ideal) x W b W' b' i)) (y : S8x750x32.Idx) :
    IsReal (val_main_v88 (F := Ideal) x W b W' b' y) := by
  unfold val_main_v88
  exact isReal_reduce_max _ _ reducesTo_S8x750x32x32_S8x750x32_d3 (by decide) h_S_ y ofBits_bot hx (by decide)

theorem v89_at (y : S8x750x32.Idx) : val_main_v89 (F := Ideal) y = (⊥ : EReal) :=
  (val_main_v89_apply y).trans ofBits_bot

theorem isReal_max_bot {u z : EReal} (hu : u = ⊥) (hz : IsReal z) : IsReal (FloatOps.maximumf (F := Ideal) (φ := .f32) u z) := by
  show IsReal (max u z)
  rw [hu, max_eq_right bot_le]
  exact hz

theorem v90_real (hx : ∀ i, IsReal (val_main_v87 (F := Ideal) x W b W' b' i)) (y : S8x750x32.Idx) :
    IsReal (val_main_v90 (F := Ideal) x W b W' b' y) := by
  have h := isReal_max_bot (v89_at y) (v88_real x W b W' b' hx y)
  rw [← val_main_v90_apply] at h
  exact h

theorem v94_at (n : Fin 750) (h : Fin 8) (i j : Fin 32) : val_main_v94 (F := Ideal) x W b W' b' (ix4 h n i j) =
    Ideal.exp (val_main_v87 (F := Ideal) x W b W' b' (ix4 h n i j) - val_main_v90 (F := Ideal) x W b W' b' (ix3 h n i)) := by
  unfold val_main_v94 val_main_v93 val_main_v92 val_main_v91
  pointwise

theorem v98_at (n : Fin 750) (h : Fin 8) (i j : Fin 32) : val_main_v98 (F := Ideal) x W b W' b' (ix4 h n i j) =
    Ideal.div (val_main_v94 (F := Ideal) x W b W' b' (ix4 h n i j)) (∑ j, val_main_v94 (F := Ideal) x W b W' b' (ix4 h n i j) : EReal) := by
  unfold val_main_v98 val_main_v97 val_main_v96 val_main_v95 val_main_cst_10
  pointwise

theorem v101_at (n : Fin 750) (i : Fin 32) (c : Fin 128) : val_main_v101 (F := Ideal) x W b W' b' W'' b'' (ix3 n i c) =
    (∑ j, val_main_v98 (F := Ideal) x W b W' b' (ix4 (hd c) n i j) * val_main_v61 (F := Ideal) x W'' b'' (ix4 (hd c) n j (dd c)) : EReal) := by
  unfold val_main_v101 val_main_v100 val_main_v99
  pointwise
  rfl

/-- The attention's row. -/
theorem att_at (n : Fin 750) (i : Fin 32) (c : Fin 128) : val_main_v101 (F := Ideal) x W b W' b' W'' b'' (ix3 n i c) =
    attnR (rotR (proj (fun k => x (ix3 i n k)) (fun k c => W (ix2 k c)) (fun c => b (ix1 c))) i)
      (fun j => rotR (proj (fun k => x (ix3 j n k)) (fun k c => W' (ix2 k c)) (fun c => b' (ix1 c))) j)
      (fun j => proj (fun k => x (ix3 j n k)) (fun k c => W'' (ix2 k c)) (fun c => b'' (ix1 c)))
      (fun h j => dmT h.val i.val j.val) (fun h => val_main_v90 (F := Ideal) x W b W' b' (ix3 h n i)) c := by
  rw [v101_at, attnR]
  refine Finset.sum_congr rfl fun j _ => ?_
  rw [v98_at, v61_eq, v49_at, lane_hd_dd]
  simp only [v94_at, v87_at]

end Cert.ReferenceIdeal.At

end
-- ==== Proof.RefLn.lean ====
/- The reference's normalisation of rows at an index. -/
module

public import proofs.«01_k».proof.Proof.RefTab

@[expose] public section

noncomputable section

namespace Cert.ReferenceIdeal.At

open Idealize.ShloMosaic Cert.ReferenceIdeal Cert.ReferenceIdeal.Gen Cert.ReferenceIdeal.Read Cert.Attn

/-- The mean of every row. -/
def mean3 (Y : FVec Ideal S750x32x128 .f32) : FVec Ideal S750x32x1 .f32 :=
  Host.divf (broadcastInDim S750x32x1 ![0, 1] bcast_S750x32_S750x32x1_0_1
      (Host.reduceAdd Y (constant S_ .f32 0x00000000#32) reducesTo_S750x32x128_S750x32_d2 h_S_))
    (broadcastInDim S750x32x1 ![] bcast_S_S750x32x1 (constant S_ .f32 0x43000000#32))

/-- The deviation from the mean. -/
def dev3 (Y : FVec Ideal S750x32x128 .f32) : FVec Ideal S750x32x128 .f32 :=
  subf Y (broadcastInDim S750x32x128 ![0, 1, 2] bcast_S750x32x1_S750x32x128_0_1_2 (mean3 Y))

/-- The variance and the small constant. -/
def var3 (Y : FVec Ideal S750x32x128 .f32) : FVec Ideal S750x32x1 .f32 :=
  addf (mean3 (mulf (dev3 Y) (dev3 Y))) (broadcastInDim S750x32x1 ![] bcast_S_S750x32x1 (constant S_ .f32 0x3727C5AC#32))

/-- A vector at every row. -/
def row3 (g : FVec Ideal S128 .f32) : FVec Ideal S750x32x128 .f32 :=
  broadcastInDim S750x32x128 ![0, 1, 2] bcast_S1x1x128_S750x32x128_0_1_2 (broadcastInDim S1x1x128 ![2] bcast_S128_S1x1x128_2 g)

/-- The normalisation. -/
def ln3 (Y : FVec Ideal S750x32x128 .f32) (g b : FVec Ideal S128 .f32) : FVec Ideal S750x32x128 .f32 :=
  addf (mulf (Host.divf (dev3 Y) (broadcastInDim S750x32x128 ![0, 1, 2] bcast_S750x32x1_S750x32x128_0_1_2 (Host.sqrt (var3 Y))))
    (row3 g)) (row3 b)

theorem mean3_at (Y : FVec Ideal S750x32x128 .f32) (n : Fin 750) (i : Fin 32) :
    mean3 Y (ix3 n i (0 : Fin 1)) = mean fun c => Y (ix3 n i c) := by
  unfold mean3
  pointwise
  rw [ofBits_128]
  rfl

theorem dev3_at (Y : FVec Ideal S750x32x128 .f32) (n : Fin 750) (i : Fin 32) (c : Fin 128) :
    dev3 Y (ix3 n i c) = Y (ix3 n i c) - mean fun c => Y (ix3 n i c) := by
  unfold dev3
  pointwise
  rw [mean3_at]

theorem var3_at (Y : FVec Ideal S750x32x128 .f32) (n : Fin 750) (i : Fin 32) :
    var3 Y (ix3 n i (0 : Fin 1)) = vareps eps fun c => Y (ix3 n i c) := by
  unfold var3
  pointwise
  rw [mean3_at]
  unfold vareps
  congr 1
  refine congrArg mean (funext fun c => ?_)
  pointwise
  rw [dev3_at]

theorem ln3_at (Y : FVec Ideal S750x32x128 .f32) (g b : FVec Ideal S128 .f32) (n : Fin 750) (i : Fin 32) (c : Fin 128) :
    ln3 Y g b (ix3 n i c) = lnR eps (fun c => Y (ix3 n i c)) (fun c => g (ix1 c)) (fun c => b (ix1 c)) c := by
  unfold ln3 row3
  pointwise
  rw [var3_at, dev3_at]
  rfl

end Cert.ReferenceIdeal.At

end
-- ==== Proof.RefOut.lean ====
/- The reference's result at an index. -/
module

public import proofs.«01_k».proof.Proof.RefSm
public import proofs.«01_k».proof.Proof.RefLn

@[expose] public section

noncomputable section

namespace Cert.ReferenceIdeal.At

open Idealize.ShloMosaic Cert.ReferenceIdeal Cert.ReferenceIdeal.Gen Cert.ReferenceIdeal.Read Cert.Attn

variable (x0 : Vec Ideal S32x750x128 .f32) (x1 : Vec Ideal S128x128 .f32) (x2 : Vec Ideal S128 .f32) (x3 : Vec Ideal S128x128 .f32)
  (x4 : Vec Ideal S128 .f32) (x5 : Vec Ideal S128x128 .f32) (x6 x7 x8 : Vec Ideal S128 .f32) (x9 : Vec Ideal S128x512 .f32)
  (x10 : Vec Ideal S512 .f32) (x11 : Vec Ideal S512x128 .f32) (x12 x13 x14 : Vec Ideal S128 .f32)

/-- The arguments' elements. -/
def rargs : Args where
  x i n k := x0 (ix3 i n k)
  Wq k j := x1 (ix2 k j)
  bq j := x2 (ix1 j)
  Wk k j := x3 (ix2 k j)
  bk j := x4 (ix1 j)
  Wv k j := x5 (ix2 k j)
  bv j := x6 (ix1 j)
  g1 j := x7 (ix1 j)
  be1 j := x8 (ix1 j)
  W1 k j := x9 (ix2 k j)
  b1 j := x10 (ix1 j)
  W2 k j := x11 (ix2 k j)
  b2 j := x12 (ix1 j)
  g2 j := x13 (ix1 j)
  be2 j := x14 (ix1 j)

theorem v102_at (n : Fin 750) (i : Fin 32) (c : Fin 128) : val_main_v102 (F := Ideal) x0 x1 x2 x3 x4 x5 x6 (ix3 n i c) =
    (val_main_v101 (F := Ideal) x0 x1 x2 x3 x4 x5 x6 (ix3 n i c) + x0 (ix3 i n c) : EReal) := by
  unfold val_main_v102 val_main_v0
  pointwise

theorem v126_eq : val_main_v126 (F := Ideal) x0 x1 x2 x3 x4 x5 x6 x7 x8 = ln3 (val_main_v102 (F := Ideal) x0 x1 x2 x3 x4 x5 x6) x7 x8 := by
  unfold val_main_v126 val_main_v125 val_main_v124 val_main_v123 val_main_v122 val_main_v121 val_main_v120 val_main_v119 val_main_v118
    val_main_v117 val_main_v116 val_main_v115 val_main_v114 val_main_v113 val_main_v112 val_main_v111 val_main_v110 val_main_v109
    val_main_v108 val_main_v107 val_main_v106 val_main_v105 val_main_v104 val_main_v103 val_main_cst_11 val_main_cst_12
    val_main_cst_13 val_main_cst_14 val_main_cst_15 ln3 row3 var3 dev3 mean3
  rfl

theorem v136_at (n : Fin 750) (i : Fin 32) (c : Fin 128) : val_main_v136 (F := Ideal) x0 x1 x2 x3 x4 x5 x6 x7 x8 x9 x10 x11 x12 (ix3 n i c) =
    ffn (fun c => val_main_v126 (F := Ideal) x0 x1 x2 x3 x4 x5 x6 x7 x8 (ix3 n i c)) (fun k c => x9 (ix2 k c)) (fun c => x10 (ix1 c))
      (fun k c => x11 (ix2 k c)) (fun c => x12 (ix1 c)) c := by
  unfold val_main_v136 val_main_v135 val_main_v134 val_main_v133 val_main_v132 val_main_v131 val_main_v130 val_main_v129 val_main_v128
    val_main_v127 val_main_cst_16
  pointwise
  rfl

theorem v137_at (n : Fin 750) (i : Fin 32) (c : Fin 128) : val_main_v137 (F := Ideal) x0 x1 x2 x3 x4 x5 x6 x7 x8 x9 x10 x11 x12 (ix3 n i c) =
    (val_main_v136 (F := Ideal) x0 x1 x2 x3 x4 x5 x6 x7 x8 x9 x10 x11 x12 (ix3 n i c) +
      val_main_v126 (F := Ideal) x0 x1 x2 x3 x4 x5 x6 x7 x8 (ix3 n i c) : EReal) := by
  unfold val_main_v137
  pointwise

theorem v161_eq : val_main_v161 (F := Ideal) x0 x1 x2 x3 x4 x5 x6 x7 x8 x9 x10 x11 x12 x13 x14 =
    ln3 (val_main_v137 (F := Ideal) x0 x1 x2 x3 x4 x5 x6 x7 x8 x9 x10 x11 x12) x13 x14 := by
  unfold val_main_v161 val_main_v160 val_main_v159 val_main_v158 val_main_v157 val_main_v156 val_main_v155 val_main_v154 val_main_v153
    val_main_v152 val_main_v151 val_main_v150 val_main_v149 val_main_v148 val_main_v147 val_main_v146 val_main_v145 val_main_v144
    val_main_v143 val_main_v142 val_main_v141 val_main_v140 val_main_v139 val_main_v138 val_main_cst_17 val_main_cst_18
    val_main_cst_19 val_main_cst_20 val_main_cst_21 ln3 row3 var3 dev3 mean3
  rfl

/-- The shift of the scores. -/
def shift (n : Fin 750) (i : Fin 32) (h : Fin 8) : EReal := val_main_v90 (F := Ideal) x0 x1 x2 x3 x4 (ix3 h n i)

theorem v162_at (i : Fin 32) (n : Fin 750) (c : Fin 128) :
    val_main_v162 (F := Ideal) x0 x1 x2 x3 x4 x5 x6 x7 x8 x9 x10 x11 x12 x13 x14 (ix3 i n c) =
      (rargs x0 x1 x2 x3 x4 x5 x6 x7 x8 x9 x10 x11 x12 x13 x14).rout (shift x0 x1 x2 x3 x4 n i) n i c := by
  unfold val_main_v162
  pointwise
  rw [v161_eq, ln3_at]
  simp only [v137_at, v136_at, v126_eq, ln3_at, v102_at, att_at]
  rfl

theorem shift_real (h : (rargs x0 x1 x2 x3 x4 x5 x6 x7 x8 x9 x10 x11 x12 x13 x14).Real) (n : Fin 750) (i : Fin 32) (hd : Fin 8) :
    IsReal (shift x0 x1 x2 x3 x4 n i hd) := by
  refine v90_real x0 x1 x2 x3 x4 (fun y => ?_) _
  obtain ⟨h', n', i', j', rfl⟩ : ∃ h' n' i' j', y = ix4 h' n' i' j' := ⟨y 0, y 1, y 2, y 3, (ix4_eta y).symm⟩
  rw [v87_at]
  exact (isReal_score (h.q n' i') (h.k n') h' j').add (isReal_dmT _ _ _ h'.isLt)

end Cert.ReferenceIdeal.At

end
-- ==== Proof.PreReal.lean ====
/- What the precondition says: the first five arguments are real. -/
module

public import proofs.«01_k».proof.Defs
public import proofs.«01_k».proof.Proof.Gen.KernelIdeal
public import proofs.«01_k».proof.Proof.Gen.ReferenceIdeal
public import proofs.«01_k».proof.Proof.HostV
public import Idealize.ShloMosaic.Lib.ReduceAll

@[expose] public section

noncomputable section

namespace Cert.PreReal

open Idealize.ShloMosaic Cert.Attn Cert.Pre_finite

/-- The shape relations the precondition's operations take. -/
theorem facts : Cert.Pre_finite.Facts where
  bcast_S_S32x750x128 := by decide
  reducesTo_S32x750x128_S_d0_1_2 := by decide
  h_S_ := by decide
  bcast_S_S128x128 := by decide
  reducesTo_S128x128_S_d0_1 := by decide
  bcast_S_S128 := by decide
  reducesTo_S128_S_d0 := by decide

instance : Subsingleton S_.Idx := ⟨fun a b => funext fun d => d.elim0⟩

theorem inf_eq : Ideal.ofBits .f32 0x7F800000#32 = ⊤ := by simp [Ideal.ofBits, Ideal.ieee]

/-- An array whose elements all lie under infinity in absolute value is real. -/
theorem all_real {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) h hu j = 1#1) (i : s.Idx) : IsReal (x i) := by
  have e' := Host.reduce_andi_all _ _ h hu j e i
  refine isReal_of_bounds ?_
  have e₂ : BitVec.ofBool (decide (max (x i : EReal) (-(x i : EReal)) < Ideal.ofBits .f32 0x7F800000#32)) = 1#1 := e'
  rw [inf_eq] at e₂
  by_contra hn
  rw [decide_eq_false hn] at e₂
  exact absurd e₂ (by decide)

variable [Cert.Pre_finite.Facts]

theorem split (a b : IVec S_ 1) (j : S_.Idx) (h : andi a b j = 1#1) : a j = 1#1 ∧ b j = 1#1 := IntOp.andi_eq_one.1 h

/-- The precondition gives the reals the equation of the two results asks for. -/
theorem real (m : (ℓ : Loc Cert.KernelIdeal.nD Cert.KernelIdeal.τ Cert.KernelIdeal.sig) → Buf (Elt Ideal) ℓ)
    (h : Cert.Pre_KernelIdeal_finite m) (c : Dev Cert.KernelIdeal.nD) : (Cert.KernelIdeal.HostV.args m c).Real := by
  have e := congrFun (h c) finZeroElim
  dsimp only [fn, fn_part1] at e
  obtain ⟨e, e4⟩ := split _ _ _ e
  obtain ⟨e, e3⟩ := split _ _ _ e
  obtain ⟨e, e2⟩ := split _ _ _ e
  obtain ⟨e0, e1⟩ := split _ _ _ e
  exact ⟨fun i n k => all_real _ _ _ _ _ e0 (ix3 i n k), fun k j => all_real _ _ _ _ _ e1 (ix2 k j), fun j => all_real _ _ _ _ _ e2 (ix1 j),
    fun k j => all_real _ _ _ _ _ e3 (ix2 k j), fun j => all_real _ _ _ _ _ e4 (ix1 j)⟩

end Cert.PreReal

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Read
public import proofs.«01_k».proof.Proof.KRun
public import proofs.«01_k».proof.Proof.RefOut
public import proofs.«01_k».proof.Proof.PreReal
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

local instance : Cert.Pre_finite.Facts := PreReal.facts

theorem frame_p : Cert.quiescent_Kernel := fun m ρ _ => Cert.Kernel.Gen.frame m ρ

theorem frame_pi : Cert.quiescent_KernelIdeal := fun m ρ _ => Cert.KernelIdeal.Gen.frame m ρ

/-- The reference's arguments are written by no operation, and it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the kernel's arguments the reference's result is the kernel's. -/
theorem value (m : (ℓ : Loc Cert.KernelIdeal.nD Cert.KernelIdeal.τ Cert.KernelIdeal.sig) → Buf (Elt Ideal) ℓ)
    (h : Cert.Pre_KernelIdeal_finite m) (c : Dev Cert.KernelIdeal.nD) :
    Cert.ReferenceIdeal.Read.val_main_v162 (F := Ideal)
      (m (c, Proc.devRef .tc Cert.KernelIdeal.main_arg0)) (m (c, Proc.devRef .tc Cert.KernelIdeal.main_arg1)) (m (c, Proc.devRef .tc Cert.KernelIdeal.main_arg2))
      (m (c, Proc.devRef .tc Cert.KernelIdeal.main_arg3)) (m (c, Proc.devRef .tc Cert.KernelIdeal.main_arg4)) (m (c, Proc.devRef .tc Cert.KernelIdeal.main_arg5))
      (m (c, Proc.devRef .tc Cert.KernelIdeal.main_arg6)) (m (c, Proc.devRef .tc Cert.KernelIdeal.main_arg7)) (m (c, Proc.devRef .tc Cert.KernelIdeal.main_arg8))
      (m (c, Proc.devRef .tc Cert.KernelIdeal.main_arg9)) (m (c, Proc.devRef .tc Cert.KernelIdeal.main_arg10)) (m (c, Proc.devRef .tc Cert.KernelIdeal.main_arg11))
      (m (c, Proc.devRef .tc Cert.KernelIdeal.main_arg12)) (m (c, Proc.devRef .tc Cert.KernelIdeal.main_arg13)) (m (c, Proc.devRef .tc Cert.KernelIdeal.main_arg14)) = Cert.KernelIdeal.Arr.R m c := by
  funext y
  obtain ⟨i, n, d, rfl⟩ : ∃ i n d, y = ix3 i n d := ⟨y 0, y 1, y 2, (ix3_eta y).symm⟩
  rw [Cert.ReferenceIdeal.At.v162_at]
  exact (congrFun (Attn.Args.kout_eq (PreReal.real m h c) _ (Cert.ReferenceIdeal.At.shift_real
    (m (c, Proc.devRef .tc Cert.KernelIdeal.main_arg0)) (m (c, Proc.devRef .tc Cert.KernelIdeal.main_arg1)) (m (c, Proc.devRef .tc Cert.KernelIdeal.main_arg2))
    (m (c, Proc.devRef .tc Cert.KernelIdeal.main_arg3)) (m (c, Proc.devRef .tc Cert.KernelIdeal.main_arg4)) (m (c, Proc.devRef .tc Cert.KernelIdeal.main_arg5))
    (m (c, Proc.devRef .tc Cert.KernelIdeal.main_arg6)) (m (c, Proc.devRef .tc Cert.KernelIdeal.main_arg7)) (m (c, Proc.devRef .tc Cert.KernelIdeal.main_arg8))
    (m (c, Proc.devRef .tc Cert.KernelIdeal.main_arg9)) (m (c, Proc.devRef .tc Cert.KernelIdeal.main_arg10)) (m (c, Proc.devRef .tc Cert.KernelIdeal.main_arg11))
    (m (c, Proc.devRef .tc Cert.KernelIdeal.main_arg12)) (m (c, Proc.devRef .tc Cert.KernelIdeal.main_arg13)) (m (c, Proc.devRef .tc Cert.KernelIdeal.main_arg14)) (PreReal.real m h c) n i) n i) d).symm

theorem algebraic : Cert.algebraic_KernelIdeal_ReferenceIdeal_pre_finite := by
  intro m g m' g' hpre hagree
  refine ⟨fun c => Cert.KernelIdeal.Arr.R m c,
    θ_run_mono (θ_run_and (Cert.KernelIdeal.Arr.run m g) (Cert.KernelIdeal.Gen.unchanged m g)) fun r h c => ⟨h.1 c, h.2 c⟩,
    θ_run_mono (Cert.ReferenceIdeal.Value.run (F := Ideal) m' g') fun r h c => ⟨(h c).1.trans ?_, (h c).2⟩⟩
  refine (Cert.ReferenceIdeal.Read.val_main_v162_eq (F := Ideal) (StableHlo.launchContents m' c)).trans ?_
  refine Eq.trans ?_ (value m hpre c)
  obtain ⟨a0, a1, a2, a3, a4, a5, a6, a7, a8, a9, a10, a11, a12, a13, a14⟩ := hagree c
  show Cert.ReferenceIdeal.Read.val_main_v162 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14)) = _
  rw [a0, a1, a2, a3, a4, a5, a6, a7, a8, a9, a10, a11, a12, a13, a14]

theorem claim : Cert.Claim :=
  ⟨Cert.Kernel.Gen.facts, Cert.KernelIdeal.Gen.facts, Cert.ReferenceIdeal.Gen.facts, PreReal.facts, frame_p, frame_pi,
    fun m ρ _ => frame_pi m ρ trivial, frame_ri, fun m ρ _ => frame_ri m ρ trivial, trivial, algebraic⟩

end Cert.Proof

end
